-- ==== Defs.lean ====
def Pre_Kernel [hPre_classes : Cert.Pre_classes.Facts] (m : (ℓ : Loc Cert.Kernel.nD Cert.Kernel.τ Cert.Kernel.sig) → Buf (Elt Bits) ℓ) : Prop :=
  ∀ c : Dev Cert.Kernel.nD,
    (Cert.Pre_classes.fn (F := Bits) (m ((c.tc : Thread Cert.Kernel.nD Cert.Kernel.τ).loc Cert.Kernel.main_arg0))) = (fun _ => 1#1)

def Pre_KernelIdeal [hPre_classes : Cert.Pre_classes.Facts] (m : (ℓ : Loc Cert.KernelIdeal.nD Cert.KernelIdeal.τ Cert.KernelIdeal.sig) → Buf (Elt Ideal) ℓ) : Prop :=
  ∀ c : Dev Cert.KernelIdeal.nD,
    (Cert.Pre_classes.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_classes [hPre_classes : Cert.Pre_classes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_classes.fn (F := Ideal) (m ((c.tc : Thread Cert.ReferenceIdeal.nD Cert.ReferenceIdeal.τ).loc Cert.ReferenceIdeal.main_arg0))) = (fun _ => 1#1)

def Pre_Reference [hPre_classes : Cert.Pre_classes.Facts] (m : (ℓ : Loc Cert.Reference.nD Cert.Reference.τ Cert.Reference.sig) → Buf (Elt Bits) ℓ) : Prop :=
  ∀ c : Dev Cert.Reference.nD,
    (Cert.Pre_classes.fn (F := Bits) (m ((c.tc : Thread Cert.Reference.nD Cert.Reference.τ).loc Cert.Reference.main_arg0))) = (fun _ => 1#1)

def quiescent_Kernel [hKernel : Cert.Kernel.Facts] [hPre_classes : Cert.Pre_classes.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] [hPre_classes : Cert.Pre_classes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_classes [hReferenceIdeal : Cert.ReferenceIdeal.Facts] [hPre_classes : Cert.Pre_classes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_classes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] [hPre_classes : Cert.Pre_classes.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_classes : Cert.Pre_classes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def bitexact_Kernel_Reference [hKernel : Cert.Kernel.Facts] [hReference : Cert.Reference.Facts] [hPre_classes : Cert.Pre_classes.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v2)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v18) = v0 c
          ∧ r.2.mem ((c.tc : Thread Cert.Reference.nD Cert.Reference.τ).loc Cert.Reference.main_arg0) = m' ((c.tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts) (hPre_classes : Cert.Pre_classes.Facts),
    quiescent_Kernel (hKernel := hKernel) (hPre_classes := hPre_classes)
    ∧ quiescent_KernelIdeal (hKernelIdeal := hKernelIdeal) (hPre_classes := hPre_classes)
    ∧ quiescent_ReferenceIdeal (hReferenceIdeal := hReferenceIdeal)
    ∧ quiescent_ReferenceIdeal_pre_classes (hReferenceIdeal := hReferenceIdeal) (hPre_classes := hPre_classes)
    ∧ quiescent_Reference (hReference := hReference) (hPre_classes := hPre_classes)
    ∧ preserves_Kernel_KernelIdeal
    ∧ algebraic_KernelIdeal_ReferenceIdeal (hKernelIdeal := hKernelIdeal) (hReferenceIdeal := hReferenceIdeal) (hPre_classes := hPre_classes)
    ∧ bitexact_Kernel_Reference (hKernel := hKernel) (hReference := hReference) (hPre_classes := hPre_classes)
-- ==== Pre_classes.lean ====
abbrev S4096x26 : Shape := ⟨2, ![4096, 26]⟩
abbrev S_ : Shape := ⟨0, ![]⟩

class Facts : Prop where
  bcast_S_S4096x26 : S_.BroadcastsInDim S4096x26 (![] : Fin 0 → Fin S4096x26.rank)
  reducesTo_S4096x26_S_d0_1 : S4096x26.ReducesTo [0, 1] S_
  h_S_ : 0 < S_.numel

variable [Facts]

def fn {F : FTy → Type} [FloatOps F] (main_arg0 : IVec S4096x26 32) : IVec S_ 1 :=
  let main_c : IVec S_ 32 := constantI S_ 32 0#32
  let main_v0 : IVec S4096x26 32 := broadcastInDim S4096x26 ![] bcast_S_S4096x26 main_c
  let main_v1 : IVec S4096x26 1 := cmpi .sge main_arg0 main_v0
  let main_c_0 : IVec S_ 32 := constantI S_ 32 1000#32
  let main_v2 : IVec S4096x26 32 := broadcastInDim S4096x26 ![] bcast_S_S4096x26 main_c_0
  let main_v3 : IVec S4096x26 1 := cmpi .slt main_arg0 main_v2
  let main_v4 : IVec S4096x26 1 := andi main_v1 main_v3
  let main_c_1 : IVec S_ 1 := constantI S_ 1 1#1
  let main_v5 : IVec S_ 1 := (fun x v => Host.reduce IntOp.andi x v reducesTo_S4096x26_S_d0_1 h_S_) main_v4 main_c_1
  main_v5
-- ==== Kernel.lean ====
abbrev S4096x26 : Shape := ⟨2, ![4096, 26]⟩
abbrev S106496 : Shape := ⟨1, ![106496]⟩
abbrev S106496x1000 : Shape := ⟨2, ![106496, 1000]⟩
abbrev S3328 : Shape := ⟨1, ![3328]⟩
abbrev S64x1000 : Shape := ⟨2, ![64, 1000]⟩
abbrev S64 : Shape := ⟨1, ![64]⟩
abbrev S_ : Shape := ⟨0, ![]⟩
abbrev S16 : Shape := ⟨1, ![16]⟩
abbrev S1x16 : Shape := ⟨2, ![1, 16]⟩
abbrev S32x1000 : Shape := ⟨2, ![32, 1000]⟩
abbrev S4096x26x1000 : Shape := ⟨3, ![4096, 26, 1000]⟩

abbrev nBuf : Table → Nat
  | .hbm => 4
  | .local .scVector .vmem => 3
  | _ => 0

abbrev bufTy : (tb : Table) → Fin (nBuf tb) → BufTy
  | .hbm, ⟨0, _⟩ => ⟨S4096x26, .i32⟩
  | .hbm, ⟨1, _⟩ => ⟨S106496, .i32⟩
  | .hbm, ⟨2, _⟩ => ⟨S106496x1000, .f32⟩
  | .hbm, ⟨3, _⟩ => ⟨S4096x26x1000, .f32⟩
  | .local .scVector .vmem, ⟨0, _⟩ => ⟨S3328, .i32⟩
  | .local .scVector .vmem, ⟨1, _⟩ => ⟨S64x1000, .f32⟩
  | .local .scVector .vmem, ⟨2, _⟩ => ⟨S64, .i32⟩
  | _, _ => ⟨S4096x26, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scv : Ref sig .scVector := ⟨.hbm, 1, rfl⟩
abbrev main_v1_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3328_i32 : BitVec 32 := 3328#32
  let v2 : BitVec 32 := Scalar.muli v1 c3328_i32
  ![v2.toNat]
@[reducible] def k0_t1_loop : Scf.Loop 32 :=
  let c0_i32_1 : BitVec 32 := 0#32
  let c64_i32 : BitVec 32 := 64#32
  let v8 : BitVec 32 := Scalar.addi c0_i32_1 c64_i32
  let c1_i32 : BitVec 32 := 1#32
  ⟨c0_i32_1, v8, c1_i32⟩
def k0_off2 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v18 : Index := Scalar.indexCast arg9
  let c0 : Index := 0#32
  ![v18.toNat, 0]
def k0_off3 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v20 : Index := Scalar.indexCast arg9
  let c16 : Index := 16#32
  ![v20.toNat, 16]
def k0_off4 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v22 : Index := Scalar.indexCast arg9
  let c32 : Index := 32#32
  ![v22.toNat, 32]
def k0_off5 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v24 : Index := Scalar.indexCast arg9
  let c48 : Index := 48#32
  ![v24.toNat, 48]
def k0_off6 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v26 : Index := Scalar.indexCast arg9
  let c64 : Index := 64#32
  ![v26.toNat, 64]
def k0_off7 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v28 : Index := Scalar.indexCast arg9
  let c80 : Index := 80#32
  ![v28.toNat, 80]
def k0_off8 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v30 : Index := Scalar.indexCast arg9
  let c96 : Index := 96#32
  ![v30.toNat, 96]
def k0_off9 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v32 : Index := Scalar.indexCast arg9
  let c112 : Index := 112#32
  ![v32.toNat, 112]
def k0_off10 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v34 : Index := Scalar.indexCast arg9
  let c128 : Index := 128#32
  ![v34.toNat, 128]
def k0_off11 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v36 : Index := Scalar.indexCast arg9
  let c144 : Index := 144#32
  ![v36.toNat, 144]
def k0_off12 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v38 : Index := Scalar.indexCast arg9
  let c160 : Index := 160#32
  ![v38.toNat, 160]
def k0_off13 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v40 : Index := Scalar.indexCast arg9
  let c176 : Index := 176#32
  ![v40.toNat, 176]
def k0_off14 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v42 : Index := Scalar.indexCast arg9
  let c192 : Index := 192#32
  ![v42.toNat, 192]
def k0_off15 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v44 : Index := Scalar.indexCast arg9
  let c208 : Index := 208#32
  ![v44.toNat, 208]
def k0_off16 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v46 : Index := Scalar.indexCast arg9
  let c224 : Index := 224#32
  ![v46.toNat, 224]
def k0_off17 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v48 : Index := Scalar.indexCast arg9
  let c240 : Index := 240#32
  ![v48.toNat, 240]
def k0_off18 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v50 : Index := Scalar.indexCast arg9
  let c256 : Index := 256#32
  ![v50.toNat, 256]
def k0_off19 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v52 : Index := Scalar.indexCast arg9
  let c272 : Index := 272#32
  ![v52.toNat, 272]
def k0_off20 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v54 : Index := Scalar.indexCast arg9
  let c288 : Index := 288#32
  ![v54.toNat, 288]
def k0_off21 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v56 : Index := Scalar.indexCast arg9
  let c304 : Index := 304#32
  ![v56.toNat, 304]
def k0_off22 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v58 : Index := Scalar.indexCast arg9
  let c320 : Index := 320#32
  ![v58.toNat, 320]
def k0_off23 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v60 : Index := Scalar.indexCast arg9
  let c336 : Index := 336#32
  ![v60.toNat, 336]
def k0_off24 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v62 : Index := Scalar.indexCast arg9
  let c352 : Index := 352#32
  ![v62.toNat, 352]
def k0_off25 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v64 : Index := Scalar.indexCast arg9
  let c368 : Index := 368#32
  ![v64.toNat, 368]
def k0_off26 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v66 : Index := Scalar.indexCast arg9
  let c384 : Index := 384#32
  ![v66.toNat, 384]
def k0_off27 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v68 : Index := Scalar.indexCast arg9
  let c400 : Index := 400#32
  ![v68.toNat, 400]
def k0_off28 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v70 : Index := Scalar.indexCast arg9
  let c416 : Index := 416#32
  ![v70.toNat, 416]
def k0_off29 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v72 : Index := Scalar.indexCast arg9
  let c432 : Index := 432#32
  ![v72.toNat, 432]
def k0_off30 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v74 : Index := Scalar.indexCast arg9
  let c448 : Index := 448#32
  ![v74.toNat, 448]
def k0_off31 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v76 : Index := Scalar.indexCast arg9
  let c464 : Index := 464#32
  ![v76.toNat, 464]
def k0_off32 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v78 : Index := Scalar.indexCast arg9
  let c480 : Index := 480#32
  ![v78.toNat, 480]
def k0_off33 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v80 : Index := Scalar.indexCast arg9
  let c496 : Index := 496#32
  ![v80.toNat, 496]
def k0_off34 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v82 : Index := Scalar.indexCast arg9
  let c512 : Index := 512#32
  ![v82.toNat, 512]
def k0_off35 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v84 : Index := Scalar.indexCast arg9
  let c528 : Index := 528#32
  ![v84.toNat, 528]
def k0_off36 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v86 : Index := Scalar.indexCast arg9
  let c544 : Index := 544#32
  ![v86.toNat, 544]
def k0_off37 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v88 : Index := Scalar.indexCast arg9
  let c560 : Index := 560#32
  ![v88.toNat, 560]
def k0_off38 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v90 : Index := Scalar.indexCast arg9
  let c576 : Index := 576#32
  ![v90.toNat, 576]
def k0_off39 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v92 : Index := Scalar.indexCast arg9
  let c592 : Index := 592#32
  ![v92.toNat, 592]
def k0_off40 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v94 : Index := Scalar.indexCast arg9
  let c608 : Index := 608#32
  ![v94.toNat, 608]
def k0_off41 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v96 : Index := Scalar.indexCast arg9
  let c624 : Index := 624#32
  ![v96.toNat, 624]
def k0_off42 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v98 : Index := Scalar.indexCast arg9
  let c640 : Index := 640#32
  ![v98.toNat, 640]
def k0_off43 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v100 : Index := Scalar.indexCast arg9
  let c656 : Index := 656#32
  ![v100.toNat, 656]
def k0_off44 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v102 : Index := Scalar.indexCast arg9
  let c672 : Index := 672#32
  ![v102.toNat, 672]
def k0_off45 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v104 : Index := Scalar.indexCast arg9
  let c688 : Index := 688#32
  ![v104.toNat, 688]
def k0_off46 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v106 : Index := Scalar.indexCast arg9
  let c704 : Index := 704#32
  ![v106.toNat, 704]
def k0_off47 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v108 : Index := Scalar.indexCast arg9
  let c720 : Index := 720#32
  ![v108.toNat, 720]
def k0_off48 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v110 : Index := Scalar.indexCast arg9
  let c736 : Index := 736#32
  ![v110.toNat, 736]
def k0_off49 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v112 : Index := Scalar.indexCast arg9
  let c752 : Index := 752#32
  ![v112.toNat, 752]
def k0_off50 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v114 : Index := Scalar.indexCast arg9
  let c768 : Index := 768#32
  ![v114.toNat, 768]
def k0_off51 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v116 : Index := Scalar.indexCast arg9
  let c784 : Index := 784#32
  ![v116.toNat, 784]
def k0_off52 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v118 : Index := Scalar.indexCast arg9
  let c800 : Index := 800#32
  ![v118.toNat, 800]
def k0_off53 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v120 : Index := Scalar.indexCast arg9
  let c816 : Index := 816#32
  ![v120.toNat, 816]
def k0_off54 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v122 : Index := Scalar.indexCast arg9
  let c832 : Index := 832#32
  ![v122.toNat, 832]
def k0_off55 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v124 : Index := Scalar.indexCast arg9
  let c848 : Index := 848#32
  ![v124.toNat, 848]
def k0_off56 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v126 : Index := Scalar.indexCast arg9
  let c864 : Index := 864#32
  ![v126.toNat, 864]
def k0_off57 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v128 : Index := Scalar.indexCast arg9
  let c880 : Index := 880#32
  ![v128.toNat, 880]
def k0_off58 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v130 : Index := Scalar.indexCast arg9
  let c896 : Index := 896#32
  ![v130.toNat, 896]
def k0_off59 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v132 : Index := Scalar.indexCast arg9
  let c912 : Index := 912#32
  ![v132.toNat, 912]
def k0_off60 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v134 : Index := Scalar.indexCast arg9
  let c928 : Index := 928#32
  ![v134.toNat, 928]
def k0_off61 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v136 : Index := Scalar.indexCast arg9
  let c944 : Index := 944#32
  ![v136.toNat, 944]
def k0_off62 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v138 : Index := Scalar.indexCast arg9
  let c960 : Index := 960#32
  ![v138.toNat, 960]
def k0_off63 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v140 : Index := Scalar.indexCast arg9
  let c976 : Index := 976#32
  ![v140.toNat, 976]

def k0_chk1 (v142 : IVec S16 32) (v146 : IVec S16 32) : Prop :=
  (∀ a x, ((![v142, v146] : Fin 2 → IVec S16 32) a x).toNat < S64x1000.size a)
theorem k0_idx1_inb : ∀ (v142 : IVec S16 32) (v146 : IVec S16 32) (k0_hw1 : k0_chk1 v142 v146), ∀ a x, ((![v142, v146] : Fin 2 → IVec S16 32) a x).toNat < S64x1000.size a := fun v142 v146 k0_hw1 => k0_hw1
@[reducible] def k0_t2_loop : Scf.Loop 32 :=
  let c0_i32_4 : BitVec 32 := 0#32
  let c52_i32 : BitVec 32 := 52#32
  let v9 : BitVec 32 := Scalar.addi c0_i32_4 c52_i32
  let c1_i32_5 : BitVec 32 := 1#32
  ⟨c0_i32_4, v9, c1_i32_5⟩
def k0_cond1 (k0_t2 : Fin k0_t2_loop.trips) : BitVec 1 :=
  let c0_i32_4 : BitVec 32 := 0#32
  let c1_i32_5 : BitVec 32 := 1#32
  let arg9 : BitVec 32 := Scf.iv c0_i32_4 c1_i32_5 k0_t2
  let c1_i32_24 : BitVec 32 := 1#32
  let v20 : BitVec 1 := Scalar.cmpi .sge arg9 c1_i32_24
  let v21 : BitVec 32 := Scalar.extui v20
  let c0_i32_25 : BitVec 32 := 0#32
  let v22 : BitVec 1 := Scalar.cmpi .ne v21 c0_i32_25
  v22

def k0_chk2 (k0_t2 : Fin k0_t2_loop.trips) (v73 : IVec S16 32) (v74 : IVec S16 32) : Prop :=
  (∀ (k0_h1 : k0_cond1 k0_t2 = 1#1), ∀ a x, ((![v73, v74] : Fin 2 → IVec S16 32) a x).toNat < S64x1000.size a)
theorem k0_idx2_inb : ∀ (k0_t2 : Fin k0_t2_loop.trips) (v73 : IVec S16 32) (v74 : IVec S16 32) (k0_hw2 : k0_chk2 k0_t2 v73 v74), ∀ (k0_h1 : k0_cond1 k0_t2 = 1#1), ∀ a x, ((![v73, v74] : Fin 2 → IVec S16 32) a x).toNat < S64x1000.size a := fun k0_t2 v73 v74 k0_hw2 k0_h1 => k0_hw2 k0_h1

def k0_chk3 (k0_t2 : Fin k0_t2_loop.trips) (v76 : IVec S16 32) (v77 : IVec S16 32) : Prop :=
  (∀ (k0_h1 : k0_cond1 k0_t2 = 1#1), ∀ a x, ((![v76, v77] : Fin 2 → IVec S16 32) a x).toNat < S64x1000.size a)
theorem k0_idx3_inb : ∀ (k0_t2 : Fin k0_t2_loop.trips) (v76 : IVec S16 32) (v77 : IVec S16 32) (k0_hw3 : k0_chk3 k0_t2 v76 v77), ∀ (k0_h1 : k0_cond1 k0_t2 = 1#1), ∀ a x, ((![v76, v77] : Fin 2 → IVec S16 32) a x).toNat < S64x1000.size a := fun k0_t2 v76 v77 k0_hw3 k0_h1 => k0_hw3 k0_h1
def k0_off64 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c2_i32_22 : BitVec 32 := 2#32
  let v18 : BitVec 32 := Scalar.muli arg9 c2_i32_22
  let c0_i32_23 : BitVec 32 := 0#32
  let v19 : BitVec 32 := Scalar.addi v18 c0_i32_23
  let c32_i32_27 : BitVec 32 := 32#32
  let v25 : BitVec 32 := Scalar.muli v19 c32_i32_27
  let c0_i32_28 : BitVec 32 := 0#32
  let v26 : BitVec 32 := Scalar.addi v25 c0_i32_28
  let v27 : Index := Scalar.indexCast v26
  ![v27.toNat]

def k0_chk4 (v24 : IVec S16 32) (v28 : IVec S16 32) : Prop :=
  (∀ a x, ((![v24, v28] : Fin 2 → IVec S16 32) a x).toNat < S64x1000.size a)
theorem k0_idx4_inb : ∀ (v24 : IVec S16 32) (v28 : IVec S16 32) (k0_hw4 : k0_chk4 v24 v28), ∀ a x, ((![v24, v28] : Fin 2 → IVec S16 32) a x).toNat < S64x1000.size a := fun v24 v28 k0_hw4 => k0_hw4
def k0_off65 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c2_i32_22 : BitVec 32 := 2#32
  let v18 : BitVec 32 := Scalar.muli arg9 c2_i32_22
  let c0_i32_23 : BitVec 32 := 0#32
  let v19 : BitVec 32 := Scalar.addi v18 c0_i32_23
  let c32_i32_29 : BitVec 32 := 32#32
  let v32 : BitVec 32 := Scalar.muli v19 c32_i32_29
  let c16_i32_30 : BitVec 32 := 16#32
  let v33 : BitVec 32 := Scalar.addi v32 c16_i32_30
  let v34 : Index := Scalar.indexCast v33
  ![v34.toNat]

def k0_chk5 (v31 : IVec S16 32) (v35 : IVec S16 32) : Prop :=
  (∀ a x, ((![v31, v35] : Fin 2 → IVec S16 32) a x).toNat < S64x1000.size a)
theorem k0_idx5_inb : ∀ (v31 : IVec S16 32) (v35 : IVec S16 32) (k0_hw5 : k0_chk5 v31 v35), ∀ a x, ((![v31, v35] : Fin 2 → IVec S16 32) a x).toNat < S64x1000.size a := fun v31 v35 k0_hw5 => k0_hw5
def k0_off66 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3328_i32 : BitVec 32 := 3328#32
  let v2 : BitVec 32 := Scalar.muli v1 c3328_i32
  let c0_i32_4 : BitVec 32 := 0#32
  let c1_i32_5 : BitVec 32 := 1#32
  let arg9 : BitVec 32 := Scf.iv c0_i32_4 c1_i32_5 k0_t2
  let c2_i32_22 : BitVec 32 := 2#32
  let v18 : BitVec 32 := Scalar.muli arg9 c2_i32_22
  let c0_i32_23 : BitVec 32 := 0#32
  let v19 : BitVec 32 := Scalar.addi v18 c0_i32_23
  let c32_i32_31 : BitVec 32 := 32#32
  let v37 : BitVec 32 := Scalar.muli v19 c32_i32_31
  let v38 : BitVec 32 := Scalar.addi v2 v37
  let c0_i32_34 : BitVec 32 := 0#32
  ![v38.toNat, 0]
def k0_cond2 (k0_t2 : Fin k0_t2_loop.trips) : BitVec 1 :=
  let c0_i32_4 : BitVec 32 := 0#32
  let c1_i32_5 : BitVec 32 := 1#32
  let arg9 : BitVec 32 := Scf.iv c0_i32_4 c1_i32_5 k0_t2
  let c1_i32_40 : BitVec 32 := 1#32
  let v45 : BitVec 1 := Scalar.cmpi .sge arg9 c1_i32_40
  let v46 : BitVec 32 := Scalar.extui v45
  let c0_i32_41 : BitVec 32 := 0#32
  let v47 : BitVec 1 := Scalar.cmpi .ne v46 c0_i32_41
  v47

def k0_chk6 (k0_t2 : Fin k0_t2_loop.trips) (v73 : IVec S16 32) (v74 : IVec S16 32) : Prop :=
  (∀ (k0_h2 : k0_cond2 k0_t2 = 1#1), ∀ a x, ((![v73, v74] : Fin 2 → IVec S16 32) a x).toNat < S64x1000.size a)
theorem k0_idx6_inb : ∀ (k0_t2 : Fin k0_t2_loop.trips) (v73 : IVec S16 32) (v74 : IVec S16 32) (k0_hw6 : k0_chk6 k0_t2 v73 v74), ∀ (k0_h2 : k0_cond2 k0_t2 = 1#1), ∀ a x, ((![v73, v74] : Fin 2 → IVec S16 32) a x).toNat < S64x1000.size a := fun k0_t2 v73 v74 k0_hw6 k0_h2 => k0_hw6 k0_h2

def k0_chk7 (k0_t2 : Fin k0_t2_loop.trips) (v76 : IVec S16 32) (v77 : IVec S16 32) : Prop :=
  (∀ (k0_h2 : k0_cond2 k0_t2 = 1#1), ∀ a x, ((![v76, v77] : Fin 2 → IVec S16 32) a x).toNat < S64x1000.size a)
theorem k0_idx7_inb : ∀ (k0_t2 : Fin k0_t2_loop.trips) (v76 : IVec S16 32) (v77 : IVec S16 32) (k0_hw7 : k0_chk7 k0_t2 v76 v77), ∀ (k0_h2 : k0_cond2 k0_t2 = 1#1), ∀ a x, ((![v76, v77] : Fin 2 → IVec S16 32) a x).toNat < S64x1000.size a := fun k0_t2 v76 v77 k0_hw7 k0_h2 => k0_hw7 k0_h2
def k0_off67 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c2_i32_38 : BitVec 32 := 2#32
  let v43 : BitVec 32 := Scalar.muli arg9 c2_i32_38
  let c1_i32_39 : BitVec 32 := 1#32
  let v44 : BitVec 32 := Scalar.addi v43 c1_i32_39
  let c32_i32_43 : BitVec 32 := 32#32
  let v50 : BitVec 32 := Scalar.muli v44 c32_i32_43
  let c0_i32_44 : BitVec 32 := 0#32
  let v51 : BitVec 32 := Scalar.addi v50 c0_i32_44
  let v52 : Index := Scalar.indexCast v51
  ![v52.toNat]

def k0_chk8 (v49 : IVec S16 32) (v53 : IVec S16 32) : Prop :=
  (∀ a x, ((![v49, v53] : Fin 2 → IVec S16 32) a x).toNat < S64x1000.size a)
theorem k0_idx8_inb : ∀ (v49 : IVec S16 32) (v53 : IVec S16 32) (k0_hw8 : k0_chk8 v49 v53), ∀ a x, ((![v49, v53] : Fin 2 → IVec S16 32) a x).toNat < S64x1000.size a := fun v49 v53 k0_hw8 => k0_hw8
def k0_off68 (k0_t2 : Fin k0_t2_loop.trips) : Fin 1 → Nat :=
  let c0_i32_4 : BitVec 32 := 0#32
  let c1_i32_5 : BitVec 32 := 1#32
  let arg9 : BitVec 32 := Scf.iv c0_i32_4 c1_i32_5 k0_t2
  let c2_i32_38 : BitVec 32 := 2#32
  let v43 : BitVec 32 := Scalar.muli arg9 c2_i32_38
  let c1_i32_39 : BitVec 32 := 1#32
  let v44 : BitVec 32 := Scalar.addi v43 c1_i32_39
  let c32_i32_45 : BitVec 32 := 32#32
  let v57 : BitVec 32 := Scalar.muli v44 c32_i32_45
  let c16_i32_46 : BitVec 32 := 16#32
  let v58 : BitVec 32 := Scalar.addi v57 c16_i32_46
  let v59 : Index := Scalar.indexCast v58
  ![v59.toNat]

def k0_chk9 (v56 : IVec S16 32) (v60 : IVec S16 32) : Prop :=
  (∀ a x, ((![v56, v60] : Fin 2 → IVec S16 32) a x).toNat < S64x1000.size a)
theorem k0_idx9_inb : ∀ (v56 : IVec S16 32) (v60 : IVec S16 32) (k0_hw9 : k0_chk9 v56 v60), ∀ a x, ((![v56, v60] : Fin 2 → IVec S16 32) a x).toNat < S64x1000.size a := fun v56 v60 k0_hw9 => k0_hw9
def k0_off69 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3328_i32 : BitVec 32 := 3328#32
  let v2 : BitVec 32 := Scalar.muli v1 c3328_i32
  let c0_i32_4 : BitVec 32 := 0#32
  let c1_i32_5 : BitVec 32 := 1#32
  let arg9 : BitVec 32 := Scf.iv c0_i32_4 c1_i32_5 k0_t2
  let c2_i32_38 : BitVec 32 := 2#32
  let v43 : BitVec 32 := Scalar.muli arg9 c2_i32_38
  let c1_i32_39 : BitVec 32 := 1#32
  let v44 : BitVec 32 := Scalar.addi v43 c1_i32_39
  let c32_i32_47 : BitVec 32 := 32#32
  let v62 : BitVec 32 := Scalar.muli v44 c32_i32_47
  let v63 : BitVec 32 := Scalar.addi v2 v62
  let c0_i32_50 : BitVec 32 := 0#32
  ![v63.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S4096x26 : Shape := ⟨2, ![4096, 26]⟩
abbrev S106496 : Shape := ⟨1, ![106496]⟩
abbrev S_ : Shape := ⟨0, ![]⟩
abbrev S106496x1000 : Shape := ⟨2, ![106496, 1000]⟩
abbrev S106496x1 : Shape := ⟨2, ![106496, 1]⟩
abbrev S106496x2 : Shape := ⟨2, ![106496, 2]⟩
abbrev S4096x26x1000 : Shape := ⟨3, ![4096, 26, 1000]⟩

abbrev nBuf : Space → Nat
  | .hbm => 26
  | .vmem => 0
  | .smem => 0
  | _ => 0

abbrev bufTy : (tb : Table) → Fin (tcTables nBuf tb) → BufTy
  | .hbm, ⟨0, _⟩ => ⟨S4096x26, .i32⟩
  | .hbm, ⟨1, _⟩ => ⟨S106496, .i32⟩
  | .hbm, ⟨2, _⟩ => ⟨S_, .f32⟩
  | .hbm, ⟨3, _⟩ => ⟨S106496x1000, .f32⟩
  | .hbm, ⟨4, _⟩ => ⟨S106496, .i32⟩
  | .hbm, ⟨5, _⟩ => ⟨S_, .i32⟩
  | .hbm, ⟨6, _⟩ => ⟨S106496, .i32⟩
  | .hbm, ⟨7, _⟩ => ⟨S106496, .i1⟩
  | .hbm, ⟨8, _⟩ => ⟨S_, .i32⟩
  | .hbm, ⟨9, _⟩ => ⟨S106496, .i32⟩
  | .hbm, ⟨10, _⟩ => ⟨S106496, .i32⟩
  | .hbm, ⟨11, _⟩ => ⟨S106496, .i32⟩
  | .hbm, ⟨12, _⟩ => ⟨S_, .i32⟩
  | .hbm, ⟨13, _⟩ => ⟨S106496, .i32⟩
  | .hbm, ⟨14, _⟩ => ⟨S106496, .i1⟩
  | .hbm, ⟨15, _⟩ => ⟨S_, .i32⟩
  | .hbm, ⟨16, _⟩ => ⟨S106496, .i32⟩
  | .hbm, ⟨17, _⟩ => ⟨S106496, .i32⟩
  | .hbm, ⟨18, _⟩ => ⟨S106496, .i32⟩
  | .hbm, ⟨19, _⟩ => ⟨S106496x1, .i32⟩
  | .hbm, ⟨20, _⟩ => ⟨S106496x1, .i32⟩
  | .hbm, ⟨21, _⟩ => ⟨S106496x2, .i32⟩
  | .hbm, ⟨22, _⟩ => ⟨S_, .f32⟩
  | .hbm, ⟨23, _⟩ => ⟨S106496, .f32⟩
  | .hbm, ⟨24, _⟩ => ⟨S106496x1000, .f32⟩
  | .hbm, ⟨25, _⟩ => ⟨S4096x26x1000, .f32⟩
  | _, _ => ⟨S4096x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_1 : Ref sig .tc := ⟨.hbm, 12, rfl⟩
abbrev main_v8 : Ref sig .tc := ⟨.hbm, 13, rfl⟩
abbrev main_v9 : Ref sig .tc := ⟨.hbm, 14, rfl⟩
abbrev main_c_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Proof.Twin.lean ====
/-
  Two programs, step for step, except where one rewrites a whole buffer and the other only part of it.

  A scatter into tile memory is two steps: the whole buffer is loaded, and the whole buffer is stored back with the
  scattered elements changed. Where every element that changes lies in one rectangle, storing that rectangle alone leaves the same
  memory, as long as the rest of the buffer still holds what was loaded. The relation `Twin` says that of two programs: the second
  loads the buffer once more, asserts that outside the rectangle it holds what was loaded, and stores the rectangle.
  This file defines the relation and shows how it passes through a program's parts; `TwinRun.lean` carries runs across it.
-/
module

public import Idealize.ShloMosaic.Lib.ThreadCanStep
public import Idealize.ShloMosaic.Lib.SparseCore.Launch
public import Idealize.ShloMosaic.Lib.Rel.Congr

@[expose] public section

namespace Cert.Twin
open Idealize.SL.Sem Idealize.ShloMosaic

variable {nD : Nat} {τ : Topo} {sig : RefSig} {Val : EltTy → Type} {Λ : Labels} {p : Proc τ}

/-- The second program's store: load the buffer again, assert that it is as loaded outside the rectangle `r`, store `r` alone. -/
noncomputable def tail {α : Type} {s : Shape} {e : EltTy} (m : Memref sig p.kind .vmem s e) (r : Rect s)
    (hl : m.view.LoadsAt (Rect.whole s).toLoadRect) (hs : (m.access r).Stores Finset.univ) (f w : s.Idx → Val e)
    (k : PUnit → Prog (TpuEff nD τ sig Val Λ p) α) : Prog (TpuEff nD τ sig Val Λ p) α :=
  .op (.load m (Rect.whole s).toLoadRect hl) fun (g : s.Idx → Val e) =>
  .op (.assume (∀ j, j ∉ r.set → g j = f j) (Classical.propDecidable _)) fun _ =>
  .op (.store m r (fun x => w (r.idx x)) Finset.univ hs (.inl rfl)) k

/-- The two programs: the same but for whole-buffer rewrites, each with its part-of-the-buffer counterpart. The last case is the first
    program standing between the two steps of such a rewrite. -/
inductive Twin {α : Type} : Prog (TpuEff nD τ sig Val Λ p) α → Prog (TpuEff nD τ sig Val Λ p) α → Prop
  | ret (a : α) : Twin (.ret a) (.ret a)
  | op {β : Type} (e : TpuEff nD τ sig Val Λ p β) {k k' : β → Prog (TpuEff nD τ sig Val Λ p) α} (h : ∀ x, Twin (k x) (k' x)) :
      Twin (.op e k) (.op e k')
  | rewrite {s : Shape} {e : EltTy} (m : Memref sig p.kind .vmem s e) (r : Rect s) (hl : m.view.LoadsAt (Rect.whole s).toLoadRect)
      (hs : (m.access (Rect.whole s)).Stores Finset.univ) (hr : (m.access r).Stores Finset.univ) (w : (s.Idx → Val e) → s.Idx → Val e)
      (hw : ∀ f j, j ∉ r.set → w f j = f j) (hn : (Finset.univ : Finset s.Idx).Nonempty ∧ (Finset.univ : Finset r.shape.Idx).Nonempty)
      {k k' : PUnit → Prog (TpuEff nD τ sig Val Λ p) α} (hk : ∀ x, Twin (k x) (k' x)) :
      Twin (.op (.load m (Rect.whole s).toLoadRect hl) fun f => .op (.store m (Rect.whole s) (w f) Finset.univ hs (.inl rfl)) k)
        (.op (.load m (Rect.whole s).toLoadRect hl) fun f => tail m r hl hr f (w f) k')
  | between {s : Shape} {e : EltTy} (m : Memref sig p.kind .vmem s e) (r : Rect s) (hl : m.view.LoadsAt (Rect.whole s).toLoadRect)
      (hs : (m.access (Rect.whole s)).Stores Finset.univ) (hr : (m.access r).Stores Finset.univ) (f w : s.Idx → Val e)
      (hw : ∀ j, j ∉ r.set → w j = f j) (hn : (Finset.univ : Finset s.Idx).Nonempty ∧ (Finset.univ : Finset r.shape.Idx).Nonempty)
      {k k' : PUnit → Prog (TpuEff nD τ sig Val Λ p) α} (hk : ∀ x, Twin (k x) (k' x)) :
      Twin (.op (.store m (Rect.whole s) w Finset.univ hs (.inl rfl)) k) (tail m r hl hr f w k')

/-- Every program is its own twin. -/
theorem Twin.refl {α : Type} (q : Prog (TpuEff nD τ sig Val Λ p) α) : Twin q q := by
  induction q with
  | ret a => exact .ret a
  | op e k ih => exact .op e ih

/-- Twins continued by twins are twins. -/
theorem Twin.bind {α β : Type} {q q' : Prog (TpuEff nD τ sig Val Λ p) α} (h : Twin q q')
    {k k' : α → Prog (TpuEff nD τ sig Val Λ p) β} (hk : ∀ a, Twin (k a) (k' a)) : Twin (q >>= k) (q' >>= k') := by
  induction h with
  | ret a => exact hk a
  | op e _ ih => exact .op e ih
  | rewrite m r hl hs hr w hw hn _ ih => exact .rewrite m r hl hs hr w hw hn ih
  | between m r hl hs hr f w hw hn _ ih => exact .between m r hl hs hr f w hw hn ih

/-- Loops over one list whose bodies are twins are twins. -/
theorem Twin.forFrom {n : Nat} {σ : Type} {b b' : Fin n → σ → Prog (TpuEff nD τ sig Val Λ p) σ} (h : ∀ t a, Twin (b t a) (b' t a))
    (l : List (Fin n)) (a : σ) : Twin (Scf.forFrom b l a) (Scf.forFrom b' l a) := by
  induction l generalizing a with
  | nil => exact .ret a
  | cons t l ih => exact (h t a).bind fun a' => ih a'

/-- Counted loops whose bodies are twins are twins. -/
theorem Twin.loop {w : Nat} {σ : Type} (l : Scf.Loop w) (hok : l.OK) (init : σ)
    {b b' : Fin l.trips → σ → Prog (TpuEff nD τ sig Val Λ p) σ} (h : ∀ t a, Twin (b t a) (b' t a)) :
    Twin (l.for hok init b) (l.for hok init b') := by
  rw [Scf.Loop.for, Scf.Loop.for, Scf.for_eq, Scf.for_eq]
  exact Twin.forFrom h _ _

/-- Twins stay twins when the label signature is extended. -/
theorem Twin.inl {Λ' : Labels} {α : Type} {q q' : Prog (TpuEff nD τ sig Val Λ p) α} (h : Twin q q') :
    Twin (TpuEff.inlProg (Λ' := Λ') q) (TpuEff.inlProg (Λ' := Λ') q') := by
  induction h with
  | ret a => exact .ret a
  | op e _ ih => exact .op _ ih
  | rewrite m r hl hs hr w hw hn _ ih => exact .rewrite m r hl hs hr w hw hn ih
  | between m r hl hs hr f w hw hn _ ih => exact .between m r hl hs hr f w hw hn ih

/-- Two tables of bodies, body by body twins. -/
def Tables (D D' : Defs nD τ sig Val Λ) : Prop := ∀ (p : Proc τ) (ℓ : Λ.Label) (a : Λ.Args ℓ), Twin (D p ℓ a) (D' p ℓ a)

/-- The pipeline layer keeps tables twins. -/
theorem Tables.pipeline {P : Type} [Fintype P] [DecidableEq P] {pcs : P → Pipeline.PCfg sig Λ Val} {D D' : Defs nD τ sig Val Λ} (h : Tables D D') :
    Tables (Pipeline.defs pcs D) (Pipeline.defs pcs D') := by
  rintro p (ℓ | ⟨q⟩ | ⟨q⟩) a
  · cases p <;> exact (h _ ℓ a).inl
  · cases p <;> exact Twin.refl _
  · cases p <;> exact Twin.refl _

/-- The launch layer keeps tables twins. -/
theorem Tables.sparseCore {Q : Nat} {K : SparseCore.Cfg τ sig Λ Q} {D D' : Defs nD τ sig Val Λ} (h : Tables D D') :
    Tables (K.defs D) (K.defs D') := by
  rintro p (ℓ | q) a
  · cases p <;> exact (h _ ℓ a).inl
  · cases p <;> exact Twin.refl _

end Cert.Twin

end
-- ==== Proof.Lanes.lean ====
/-
  What a scatter of one value leaves, and the sixteen consecutive row numbers a vector counts.
-/
module

public import proofs.«01_k».proof.Proof.Gen.KernelIdeal.Skeleton

@[expose] public section

namespace Cert.Lanes
open Idealize.ShloMosaic Cert.KernelIdeal Cert.KernelIdeal.Gen

/-- One value scattered lane after lane: an element some chosen lane names holds the value, every other element what it held. -/
theorem foldl_scatter {ι J α : Type} (l : List ι) (p : ι → Prop) [DecidablePred p] (hit : ι → J → Prop) [∀ k j, Decidable (hit k j)] (c : α) (f : J → α) (j : J) :
    (l.foldl (fun (g : J → α) k => if p k then (fun j => if hit k j then c else g j) else g) f) j
      = if (∃ k ∈ l, p k ∧ hit k j) then c else f j := by
  classical
  induction l generalizing f with
  | nil => simp
  | cons k l ih =>
    rw [List.foldl_cons, ih]
    by_cases h : ∃ k ∈ l, p k ∧ hit k j
    · rw [if_pos h, if_pos]; obtain ⟨k', hk', h'⟩ := h; exact ⟨k', List.mem_cons_of_mem _ hk', h'⟩
    · rw [if_neg h]
      by_cases hp : p k
      · rw [if_pos hp]
        by_cases hh : hit k j
        · rw [if_pos hh, if_pos]; exact ⟨k, List.mem_cons_self, hp, hh⟩
        · rw [if_neg hh, if_neg]
          rintro ⟨k', hk', h'⟩
          rcases List.mem_cons.mp hk' with rfl | hk'
          · exact hh h'.2
          · exact h ⟨k', hk', h'⟩
      · rw [if_neg hp, if_neg]
        rintro ⟨k', hk', h'⟩
        rcases List.mem_cons.mp hk' with rfl | hk'
        · exact hp h'.1
        · exact h ⟨k', hk', h'⟩

variable {F : FTy → Type} [FloatOps F]

/-- The lane `k` as an index of a sixteen-lane vector. -/
abbrev lane (k : Fin 16) : S16.Idx := Shape.ofLane (d := ![16]) k

theorem lane_zero (k : Fin 16) : (lane k 0).val = k.val := rfl

theorem lane_of (x : S16.Idx) : ∃ k : Fin 16, x = lane k :=
  ⟨x 0, by funext a; apply Fin.ext; obtain rfl := Subsingleton.elim a 0; rfl⟩

/-- A scatter of one value `c`: an element a chosen lane names is `c`, every other is as before. -/
theorem storeIdx_const {s : Shape} {e : EltTy} (f : Vec F s e) (idxs : Fin s.rank → IVec S16 32) (v : Vec F S16 e) (c : Elt F e) (hv : ∀ x, v x = c)
    (mask : IVec S16 1) (h : ∀ a x, (idxs a x).toNat < s.size a) (j : s.Idx) [Decidable (∃ k : Fin 16, mask (lane k) = 1 ∧ ∀ a, (j a).val = (idxs a (lane k)).toNat)] :
    storeIdx f idxs v mask false h j
      = if ∃ k : Fin 16, mask (lane k) = 1 ∧ ∀ a, (j a).val = (idxs a (lane k)).toNat then c else f j := by
  classical
  have key : storeIdx f idxs v mask false h = (List.finRange 16).foldl (fun (g : s.Idx → Elt F e) k =>
      if mask (lane k) = 1 then (fun j => if ∀ a, (j a).val = (idxs a (lane k)).toNat then c else g j) else g) f := by
    unfold storeIdx
    refine congrArg (fun b => List.foldl b f (List.finRange 16)) ?_
    funext g k
    by_cases hm : mask (lane k) = 1
    · refine (if_pos hm).trans (Eq.trans ?_ (if_pos hm).symm)
      funext j
      by_cases hj : ∀ a, (j a).val = (idxs a (lane k)).toNat
      · exact (if_pos hj).trans ((hv _).trans (if_pos hj).symm)
      · exact (if_neg hj).trans (if_neg hj).symm
    · exact (if_neg hm).trans (if_neg hm).symm
  rw [key, foldl_scatter (List.finRange 16) (fun k => mask (lane k) = 1) (fun k (j : s.Idx) => ∀ a, (j a).val = (idxs a (lane k)).toNat) c f j]
  simp only [List.mem_finRange, true_and]

/-- The row numbers `n, n+1, …, n+15`. -/
def lanesFrom (n : Nat) : IVec S16 32 := addi (broadcast S16 (BitVec.ofNat 32 n)) (iota .scVector S16 32 [0] iota_S16_d0_w32_scVector)

theorem lanesFrom_toNat {n : Nat} (hn : n < 4096) (k : Fin 16) : (lanesFrom n (lane k)).toNat = n + k.val := by
  show (BitVec.ofNat 32 n + BitVec.ofNat 32 (0 * 16 + (lane k 0).val)).toNat = _
  rw [lane_zero]
  have := k.isLt
  rw [BitVec.toNat_add, BitVec.toNat_ofNat, BitVec.toNat_ofNat, Nat.zero_mul, Nat.zero_add]
  omega

end Cert.Lanes

end
-- ==== Proof.Companion.lean ====
/-
  The kernel's companion: the same kernel, except that each of its scatters into the half of the two-half buffer it is filling stores
  that half alone, after asserting that the other half is as it was loaded. The kernel and its companion are twins (`Twin.lean`).
-/
module

public import proofs.«01_k».proof.Proof.Twin
public import proofs.«01_k».proof.Proof.Lanes

@[expose] public section

noncomputable section

namespace Cert.Companion
open Idealize.ShloMosaic Idealize.SL.Sem Cert.KernelIdeal Cert.KernelIdeal.Gen Cert.Lanes Cert.Twin

variable {F : FTy → Type} [FloatOps F]

/-- The class numbers, the result, and the tile's three buffers: its class numbers, its two-half row buffer, the class numbers of the rows in it. -/
abbrev iV : Memref sig .scVector .hbm S106496 .i32 := Memref.whole main_v0_scv
abbrev oV : Memref sig .scVector .hbm S106496x1000 .f32 := Memref.whole main_v1_scv
abbrev xV : Memref sig .scVector .vmem S3328 .i32 := Memref.whole cc0_scratch0
abbrev bV : Memref sig .scVector .vmem S64x1000 .f32 := Memref.whole cc0_scratch1
abbrev cV : Memref sig .scVector .vmem S64 .i32 := Memref.whole cc0_scratch2

/-- The vector subcore at coordinates `L`, and its programs. -/
abbrev proc (L : grid0.Coords) : Proc τ := .scVector ((L 0).castLE hcore0) ((L 1).castLE hsub0)
abbrev TProg (F : FTy → Type) (L : grid0.Coords) (α : Type) : Type 1 := Prog (TpuEff nD τ sig (Elt F) Λ₀ (proc L)) α

variable {L : grid0.Coords} {α : Type}

/-- Thirty-two rows of the buffer from row `o`. -/
abbrev halfRect (o : Nat) (ho : ∀ a, (![o, 0] : Fin 2 → Nat) a + S32x1000.size a ≤ S64x1000.size a) : Rect S64x1000 :=
  Rect.unit (s := S64x1000) ![o, 0] S32x1000.size ho

theorem h_S32x1000 : 0 < S32x1000.numel := by decide

/-- The scatter of `v` at rows `rows` and columns `cols`, storing the rectangle `r` only. -/
def scat (r : Rect S64x1000) (hr : (bV.access r).Stores Finset.univ) (rows cols : IVec S16 32) (v : FVec F S16 .f32)
    (h : ∀ a x, ((![rows, cols] : Fin 2 → IVec S16 32) a x).toNat < S64x1000.size a) (k : PUnit → TProg F L α) : TProg F L α :=
  .op (.load bV (Rect.whole S64x1000).toLoadRect (View.loadsAt_rect (View.Stores.loads (View.stores_vmem_bits_univ h_S64x1000 rfl)))) fun f =>
  tail (p := proc L) bV r (View.loadsAt_rect (View.Stores.loads (View.stores_vmem_bits_univ h_S64x1000 rfl))) hr f (storeIdx f ![rows, cols] v (fun _ => 1#1) false h) k

/-- Sixteen rows made zero again: the class numbers of the rows read back, checked, and zeros scattered there. -/
def clear (r : Rect S64x1000) (hr : (bV.access r).Stores Finset.univ) (n : Nat) (hn : ∀ a, (![n] : Fin 1 → Nat) a + S16.size a ≤ S64.size a)
    (C : IVec S16 32 → Prop) (dec : ∀ v, Decidable (C v))
    (hC : ∀ v, C v → ∀ a x, ((![lanesFrom n, v] : Fin 2 → IVec S16 32) a x).toNat < S64x1000.size a) (k : PUnit → TProg F L α) : TProg F L α :=
  .op (.load cV (Rect.unit (s := S64) ![n] S16.size hn).toLoadRect (View.loadsAt_vmem h_S16)) fun (v : Vec F S16 .i32) =>
  .op (.assume (C v) (dec v)) fun h => scat r hr (lanesFrom n) v k0_pay5 (hC v h.down) k

/-- Sixteen rows given their ones: their class numbers read, checked, ones scattered there, the class numbers kept. -/
def put (r : Rect S64x1000) (hr : (bV.access r).Stores Finset.univ) (n : Nat) (hn : ∀ a, (![n] : Fin 1 → Nat) a + S16.size a ≤ S64.size a)
    (off : Fin 1 → Nat) (hoff : ∀ a, off a + S16.size a ≤ S3328.size a)
    (C : IVec S16 32 → Prop) (dec : ∀ v, Decidable (C v))
    (hC : ∀ v, C v → ∀ a x, ((![lanesFrom n, v] : Fin 2 → IVec S16 32) a x).toNat < S64x1000.size a) (k : PUnit → TProg F L α) : TProg F L α :=
  .op (.load xV (Rect.unit (s := S3328) off S16.size hoff).toLoadRect (View.loadsAt_vmem h_S16)) fun (v : Vec F S16 .i32) =>
  .op (.assume (C v) (dec v)) fun h => scat r hr (lanesFrom n) v k0_pay6 (hC v h.down) fun _ =>
  .op (.load cV (Rect.unit (s := S64) ![n] S16.size hn).toLoadRect (View.loadsAt_vmem h_S16)) fun _ =>
  .op (.store cV (Rect.unit (s := S64) ![n] S16.size hn) v Finset.univ (View.stores_vmem_bits_univ h_S16 rfl) (.inl rfl)) k

/-- The copy of the half from row `o` out to the result's rows at `off`, on semaphore `sm`. -/
def send (o : Nat) (ho : ∀ a, (![o, 0] : Fin 2 → Nat) a + S32x1000.size a ≤ S64x1000.size a) (sm : DmaSem sig)
    (off : Fin 2 → Nat) (hoff : ∀ a, off a + S32x1000.size a ≤ S106496x1000.size a) (k : PUnit → TProg F L α) : TProg F L α :=
  .op (.enqueueDma (bV.slice (halfRect o ho) (fun _ => rfl)) (.here (oV.slice (Rect.unit (s := S106496x1000) off S32x1000.size hoff) (fun _ => rfl)))
    (.dma sm) (View.wordExact_bits rfl) (View.wordExact_bits rfl) ⟨Or.inl rfl, trivial⟩) k

/-- The wait for such a copy. -/
def await (o : Nat) (ho : ∀ a, (![o, 0] : Fin 2 → Nat) a + S32x1000.size a ≤ S64x1000.size a) (sm : DmaSem sig) (k : PUnit → TProg F L α) : TProg F L α :=
  .op (.waitDma2 sm (bV.slice (halfRect o ho) (fun _ => rfl))
    (oV.slice (Rect.unit (s := S106496x1000) ![0, 0] S32x1000.size inb_S106496x1000_S32x1000_0_0) (fun _ => rfl)) (View.wordExact_bits rfl) (View.wordExact_bits rfl)) k

theorem S32x1000_pos (a : Fin 2) : 0 < S32x1000.size a := by fin_cases a <;> decide

theorem half_stores (o : Nat) (ho : ∀ a, (![o, 0] : Fin 2 → Nat) a + S32x1000.size a ≤ S64x1000.size a) : (bV.access (halfRect o ho)).Stores Finset.univ :=
  View.stores_vmem_bits_univ h_S32x1000 rfl

abbrev lo : ∀ a, (![0, 0] : Fin 2 → Nat) a + S32x1000.size a ≤ S64x1000.size a := inb_S64x1000_S32x1000_0_0
abbrev hi : ∀ a, (![32, 0] : Fin 2 → Nat) a + S32x1000.size a ≤ S64x1000.size a := inb_S64x1000_S32x1000_32_0

/-- Indices at rows `n … n + 15` and columns `v` are inside the buffer. -/
abbrev Inside (n : Nat) (v : IVec S16 32) : Prop := ∀ a x, ((![lanesFrom n, v] : Fin 2 → IVec S16 32) a x).toNat < S64x1000.size a

/-- One half's part of a trip: except on the first trip (`cnd` false), wait for the half's last copy and clear its rows; then fill
    them and send them out. The half starts at row `o`; its two groups of sixteen rows start at `n₁` and `n₂`. -/
def half (o : Nat) (ho : ∀ a, (![o, 0] : Fin 2 → Nat) a + S32x1000.size a ≤ S64x1000.size a) (sm : DmaSem sig) (cnd : Prop) [Decidable cnd]
    (n₁ n₂ : Nat) (hn₁ : ∀ a, (![n₁] : Fin 1 → Nat) a + S16.size a ≤ S64.size a) (hn₂ : ∀ a, (![n₂] : Fin 1 → Nat) a + S16.size a ≤ S64.size a)
    (C₁ C₂ P₁ P₂ : IVec S16 32 → Prop) (dC₁ : ∀ v, Decidable (C₁ v)) (dC₂ : ∀ v, Decidable (C₂ v)) (dP₁ : ∀ v, Decidable (P₁ v)) (dP₂ : ∀ v, Decidable (P₂ v))
    (hC₁ : cnd → ∀ v, C₁ v → Inside n₁ v) (hC₂ : cnd → ∀ v, C₂ v → Inside n₂ v) (hP₁ : ∀ v, P₁ v → Inside n₁ v) (hP₂ : ∀ v, P₂ v → Inside n₂ v)
    (x₁ x₂ : Fin 1 → Nat) (hx₁ : ∀ a, x₁ a + S16.size a ≤ S3328.size a) (hx₂ : ∀ a, x₂ a + S16.size a ≤ S3328.size a)
    (off : Fin 2 → Nat) (hoff : ∀ a, off a + S32x1000.size a ≤ S106496x1000.size a) (k : PUnit → TProg F L α) : TProg F L α :=
  let rest : TProg F L α :=
    put (halfRect o ho) (half_stores o ho) n₁ hn₁ x₁ hx₁ P₁ dP₁ hP₁ fun _ =>
    put (halfRect o ho) (half_stores o ho) n₂ hn₂ x₂ hx₂ P₂ dP₂ hP₂ fun _ =>
    send o ho sm off hoff k
  if h : cnd then
    await o ho sm fun _ =>
    clear (halfRect o ho) (half_stores o ho) n₁ hn₁ C₁ dC₁ (hC₁ h) fun _ =>
    clear (halfRect o ho) (half_stores o ho) n₂ hn₂ C₂ dC₂ (hC₂ h) fun _ => rest
  else rest

/-- The first half's part of a trip of the main loop. -/
abbrev first (t : Fin k0_t2_loop.trips) (k : PUnit → TProg F L α) : TProg F L α :=
  half 0 lo cc0_scratch3.sem (k0_cond1 t = 1#1) 0 16 inb_S64_S16_0 inb_S64_S16_16
    (k0_chk2 t (lanesFrom 0)) (k0_chk3 t (lanesFrom 16)) (k0_chk4 (lanesFrom 0)) (k0_chk5 (lanesFrom 16))
    (k0_chk2.dec t (lanesFrom 0)) (k0_chk3.dec t (lanesFrom 16)) (k0_chk4.dec (lanesFrom 0)) (k0_chk5.dec (lanesFrom 16))
    (fun h1 _ h => h h1) (fun h1 _ h => h h1) (fun _ h => h) (fun _ h => h)
    (k0_off64 t) (k0_off65 t) (k0_off64_inb t) (k0_off65_inb t) (k0_off66 L t) (k0_off66_inb L t) k

/-- The second half's part. -/
abbrev second (t : Fin k0_t2_loop.trips) (k : PUnit → TProg F L α) : TProg F L α :=
  half 32 hi cc0_scratch4.sem (k0_cond2 t = 1#1) 32 48 inb_S64_S16_32 inb_S64_S16_48
    (k0_chk6 t (lanesFrom 32)) (k0_chk7 t (lanesFrom 48)) (k0_chk8 (lanesFrom 32)) (k0_chk9 (lanesFrom 48))
    (k0_chk6.dec t (lanesFrom 32)) (k0_chk7.dec t (lanesFrom 48)) (k0_chk8.dec (lanesFrom 32)) (k0_chk9.dec (lanesFrom 48))
    (fun h2 _ h => h h2) (fun h2 _ h => h h2) (fun _ h => h) (fun _ h => h)
    (k0_off67 t) (k0_off68 t) (k0_off67_inb t) (k0_off68_inb t) (k0_off69 L t) (k0_off69_inb L t) k

/-- A trip of the main loop. -/
def trip (t : Fin k0_t2_loop.trips) (_ : Unit) : TProg F L Unit := first t fun _ => second t fun _ => .ret ⟨⟩

/-- A trip of the loop that makes the buffer zero: the kernel's own. -/
abbrev wipe (t : Fin k0_t1_loop.trips) (u : Unit) : TProg F L Unit :=
  k0_t1_body L iV (Memref.isWhole_whole _) oV (Memref.isWhole_whole _) xV (Memref.isWhole_whole _) bV (Memref.isWhole_whole _) cV (Memref.isWhole_whole _)
    cc0_scratch3 cc0_scratch4 cc0_scoped0 t u

/-- The fetch of the tile's class numbers. -/
def fetch (k : PUnit → TProg F L α) : TProg F L α :=
  .op (.enqueueDma (iV.slice (Rect.unit (s := S106496) (k0_off1 L) S3328.size (k0_off1_inb L)) (fun _ => rfl)) (.here xV) (.dma cc0_scoped0.sem)
    (View.wordExact_bits rfl) (Memref.isWhole_whole _).wordExact ⟨Or.inl rfl, trivial⟩) fun _ =>
  .op (.waitDma2 cc0_scoped0.sem (iV.slice (Rect.unit (s := S106496) (k0_off1 L) S3328.size (k0_off1_inb L)) (fun _ => rfl)) xV
    (View.wordExact_bits rfl) (Memref.isWhole_whole _).wordExact) k

/-- The companion of the kernel at coordinates `L`. -/
def companion (L : grid0.Coords) : TProg F L PUnit :=
  fetch fun _ =>
  ((Scf.Loop.for k0_t1_loop k0_t1_ok ⟨⟩ (wipe (F := F))) >>= fun _ =>
    (Scf.Loop.for k0_t2_loop k0_t2_ok ⟨⟩ (trip (F := F))) >>= fun _ =>
    await 0 lo cc0_scratch3.sem fun _ => .ret PUnit.unit) >>= fun _ =>
  await 32 hi cc0_scratch4.sem fun _ => .ret ⟨⟩

/-! ## The twins -/

/-- A scatter among rows `n … n + 15` changes nothing outside rows `o … o + 31` that hold them. -/
theorem storeIdx_outside {o n : Nat} (hon : o ≤ n) (hno : n + 16 ≤ o + 32) (hn : n < 4096) (ho : ∀ a, (![o, 0] : Fin 2 → Nat) a + S32x1000.size a ≤ S64x1000.size a)
    (cols : IVec S16 32) (v : FVec F S16 .f32) (c : F .f32) (hv : ∀ x, v x = c)
    (h : ∀ a x, ((![lanesFrom n, cols] : Fin 2 → IVec S16 32) a x).toNat < S64x1000.size a)
    (f : Vec F S64x1000 .f32) (j : S64x1000.Idx) (hj : j ∉ (halfRect o ho).set) :
    storeIdx f ![lanesFrom n, cols] v (fun _ => 1#1) false h j = f j := by
  classical
  rw [storeIdx_const (e := .f32) f ![lanesFrom n, cols] v c hv, if_neg]
  rintro ⟨k, -, hk⟩
  apply hj
  have h0 : (j 0).val = (lanesFrom n (lane k)).toNat := hk 0
  rw [lanesFrom_toNat hn] at h0
  rw [Rect.mem_set_unit]
  have := k.isLt
  have h1 : (j 1).val < 1000 := (j 1).isLt
  intro a
  fin_cases a
  · show o ≤ (j 0).val ∧ (j 0).val < o + 32; omega
  · show 0 ≤ (j 1).val ∧ (j 1).val < 0 + 1000; omega

/-- A scatter of the kernel's and the companion's. -/
theorem scat_twin {o n : Nat} (hon : o ≤ n) (hno : n + 16 ≤ o + 32) (hn : n < 4096) (ho : ∀ a, (![o, 0] : Fin 2 → Nat) a + S32x1000.size a ≤ S64x1000.size a)
    (cols : IVec S16 32) (v : FVec F S16 .f32) (c : F .f32) (hv : ∀ x, v x = c)
    (h : ∀ a x, ((![lanesFrom n, cols] : Fin 2 → IVec S16 32) a x).toNat < S64x1000.size a)
    {k k' : PUnit → TProg F L α} (hk : ∀ x, Twin (k x) (k' x)) :
    Twin (SparseCore.vectorStoreIdx (p := proc L) bV ![lanesFrom n, cols] v (fun _ => 1#1) false h (View.stores_vmem_bits_univ h_S64x1000 rfl) >>= k)
      (scat (halfRect o ho) (half_stores o ho) (lanesFrom n) cols v h k') :=
  Twin.rewrite (p := proc L) bV (halfRect o ho) _ _ (half_stores o ho) (fun f => storeIdx f ![lanesFrom n, cols] v (fun _ => 1#1) false h)
    (fun f j hj => storeIdx_outside hon hno hn ho cols v c hv h f j hj)
    ⟨⟨fun a => ⟨0, by fin_cases a <;> decide⟩, Finset.mem_univ _⟩, ⟨fun a => ⟨0, S32x1000_pos a⟩, Finset.mem_univ _⟩⟩ hk

theorem pay5_const (x : S16.Idx) : (k0_pay5 (F := F)) x = Scalar.ofBits .f32 0x00000000#32 := rfl
theorem pay6_const (x : S16.Idx) : (k0_pay6 (F := F)) x = Scalar.ofBits .f32 0x3F800000#32 := rfl

/-- The kernel's clearing of sixteen rows and the companion's. -/
theorem clear_twin {o n : Nat} (hon : o ≤ n) (hno : n + 16 ≤ o + 32) (hn4 : n < 4096) (ho : ∀ a, (![o, 0] : Fin 2 → Nat) a + S32x1000.size a ≤ S64x1000.size a)
    (hn : ∀ a, (![n] : Fin 1 → Nat) a + S16.size a ≤ S64.size a) (C : IVec S16 32 → Prop) (dec : ∀ v, Decidable (C v))
    (hC : ∀ v, C v → ∀ a x, ((![lanesFrom n, v] : Fin 2 → IVec S16 32) a x).toNat < S64x1000.size a)
    {k k' : PUnit → TProg F L α} (hk : ∀ x, Twin (k x) (k' x)) :
    Twin (.op (.load cV (Rect.unit (s := S64) ![n] S16.size hn).toLoadRect (View.loadsAt_vmem h_S16)) fun (v : Vec F S16 .i32) =>
        .op (.assume (C v) (dec v)) fun h =>
        SparseCore.vectorStoreIdx (p := proc L) bV ![lanesFrom n, v] (k0_pay5 (F := F)) (fun _ => 1#1) false (hC v h.down) (View.stores_vmem_bits_univ h_S64x1000 rfl) >>= k)
      (clear (halfRect o ho) (half_stores o ho) n hn C dec hC k') :=
  .op _ fun v => .op _ fun h => scat_twin hon hno hn4 ho v _ _ pay5_const _ hk

/-- The kernel's filling of sixteen rows and the companion's. -/
theorem put_twin {o n : Nat} (hon : o ≤ n) (hno : n + 16 ≤ o + 32) (hn4 : n < 4096) (ho : ∀ a, (![o, 0] : Fin 2 → Nat) a + S32x1000.size a ≤ S64x1000.size a)
    (hn : ∀ a, (![n] : Fin 1 → Nat) a + S16.size a ≤ S64.size a) (off : Fin 1 → Nat) (hoff : ∀ a, off a + S16.size a ≤ S3328.size a)
    (C : IVec S16 32 → Prop) (dec : ∀ v, Decidable (C v))
    (hC : ∀ v, C v → ∀ a x, ((![lanesFrom n, v] : Fin 2 → IVec S16 32) a x).toNat < S64x1000.size a)
    {k k' : PUnit → TProg F L α} (hk : ∀ x, Twin (k x) (k' x)) :
    Twin (.op (.load xV (Rect.unit (s := S3328) off S16.size hoff).toLoadRect (View.loadsAt_vmem h_S16)) fun (v : Vec F S16 .i32) =>
        .op (.assume (C v) (dec v)) fun h =>
        SparseCore.vectorStoreIdx (p := proc L) bV ![lanesFrom n, v] (k0_pay6 (F := F)) (fun _ => 1#1) false (hC v h.down) (View.stores_vmem_bits_univ h_S64x1000 rfl) >>= fun _ =>
        .op (.load cV (Rect.unit (s := S64) ![n] S16.size hn).toLoadRect (View.loadsAt_vmem h_S16)) fun _ =>
        .op (.store cV (Rect.unit (s := S64) ![n] S16.size hn) v Finset.univ (View.stores_vmem_bits_univ h_S16 rfl) (.inl rfl)) k)
      (put (halfRect o ho) (half_stores o ho) n hn off hoff C dec hC k') :=
  .op _ fun v => .op _ fun h => scat_twin hon hno hn4 ho v _ _ pay6_const _ fun _ => .op _ fun _ => .op _ hk

/-! ## The loop, the kernel, the tables -/

theorem part6_twin (v2 : BitVec 32) (t : Fin k0_t2_loop.trips) {k : (Σ' (_ : BitVec 32), BitVec 32) → TProg F L α} {k' : PUnit → TProg F L α} (hk : ∀ s x, Twin (k s) (k' x)) :
    Twin (k0_part6_skel L iV (Memref.isWhole_whole _) oV (Memref.isWhole_whole _) xV (Memref.isWhole_whole _) bV (Memref.isWhole_whole _) cV (Memref.isWhole_whole _)
        cc0_scratch3 cc0_scratch4 cc0_scoped0 v2 (k0_pay5 (F := F)) (k0_pay6 (F := F)) (iota .scVector S16 32 [0] iota_S16_d0_w32_scVector) 0#32 1#32 t >>= k)
      (first t k') := by
  have rest := fun s => put_twin (L := L) (F := F) (o := 0) (n := 0) (by decide) (by decide) (by decide) lo inb_S64_S16_0 (k0_off64 t) (k0_off64_inb t) (k0_chk4 (lanesFrom 0)) (k0_chk4.dec (lanesFrom 0)) (fun _ h => h)
    fun _ => put_twin (o := 0) (n := 16) (by decide) (by decide) (by decide) lo inb_S64_S16_16 (k0_off65 t) (k0_off65_inb t) (k0_chk5 (lanesFrom 16)) (k0_chk5.dec (lanesFrom 16)) (fun _ h => h)
      fun _ => Twin.op (p := proc L) (.enqueueDma (bV.slice (halfRect 0 lo) (fun _ => rfl)) (.here (oV.slice (Rect.unit (s := S106496x1000) (k0_off66 L t) S32x1000.size (k0_off66_inb L t)) (fun _ => rfl)))
    (.dma cc0_scratch3.sem) (View.wordExact_bits rfl) (View.wordExact_bits rfl) ⟨Or.inl rfl, trivial⟩) (hk s)
  unfold first half k0_part6_skel
  by_cases h1 : k0_cond1 t = 1#1
  · simp only [dif_pos h1]
    exact .op _ fun _ => clear_twin (o := 0) (n := 0) (by decide) (by decide) (by decide) lo inb_S64_S16_0 _ _ (fun _ h => h h1)
      fun _ => clear_twin (o := 0) (n := 16) (by decide) (by decide) (by decide) lo inb_S64_S16_16 _ _ (fun _ h => h h1) fun _ => rest _
  · simp only [dif_neg h1]
    exact rest _

theorem trip_twin (v2 : BitVec 32) (t : Fin k0_t2_loop.trips) (u : Unit) :
    Twin (k0_t2_body L iV (Memref.isWhole_whole _) oV (Memref.isWhole_whole _) xV (Memref.isWhole_whole _) bV (Memref.isWhole_whole _) cV (Memref.isWhole_whole _)
        cc0_scratch3 cc0_scratch4 cc0_scoped0 v2 (iota .scVector S16 32 [0] iota_S16_d0_w32_scVector) t u)
      (trip (F := F) (L := L) t u) := by
  have rest := put_twin (L := L) (F := F) (o := 32) (n := 32) (by decide) (by decide) (by decide) hi inb_S64_S16_32 (k0_off67 t) (k0_off67_inb t) (k0_chk8 (lanesFrom 32)) (k0_chk8.dec (lanesFrom 32)) (fun _ h => h)
    fun _ => put_twin (o := 32) (n := 48) (by decide) (by decide) (by decide) hi inb_S64_S16_48 (k0_off68 t) (k0_off68_inb t) (k0_chk9 (lanesFrom 48)) (k0_chk9.dec (lanesFrom 48)) (fun _ h => h)
      fun _ => Twin.op (p := proc L) (.enqueueDma (bV.slice (halfRect 32 hi) (fun _ => rfl)) (.here (oV.slice (Rect.unit (s := S106496x1000) (k0_off69 L t) S32x1000.size (k0_off69_inb L t)) (fun _ => rfl)))
    (.dma cc0_scratch4.sem) (View.wordExact_bits rfl) (View.wordExact_bits rfl) ⟨Or.inl rfl, trivial⟩) fun _ => Twin.ret (p := proc L) (sig := sig) (Λ := Λ₀) (nD := nD) (Val := Elt F) ()
  unfold trip k0_t2_body
  rw [k0_part6_eq_skeleton]
  refine part6_twin v2 t fun s _ => ?_
  obtain ⟨_, _⟩ := s
  unfold second half
  by_cases h2 : k0_cond2 t = 1#1
  · simp only [dif_pos h2]
    exact .op _ fun _ => clear_twin (o := 32) (n := 32) (by decide) (by decide) (by decide) hi inb_S64_S16_32 _ _ (fun _ h => h h2)
      fun _ => clear_twin (o := 32) (n := 48) (by decide) (by decide) (by decide) hi inb_S64_S16_48 _ _ (fun _ h => h h2) fun _ => rest
  · simp only [dif_neg h2]
    exact rest

/-- The kernel at coordinates `L` and its companion are twins. -/
theorem kernel_twin (L : grid0.Coords) :
    Twin (cc0__sc_onehot (F := F) L iV (Memref.isWhole_whole _) oV (Memref.isWhole_whole _) xV (Memref.isWhole_whole _) bV (Memref.isWhole_whole _) cV (Memref.isWhole_whole _)
        cc0_scratch3 cc0_scratch4 cc0_scoped0)
      (companion L) := by
  rw [cc0__sc_onehot_eq_skeleton]
  unfold cc0__sc_onehot_skel
  rw [k0_part7_eq_skeleton]
  unfold k0_part7_skel companion
  exact .op _ fun _ => .op _ fun _ => ((Twin.refl _).bind fun _ => (Twin.loop k0_t2_loop k0_t2_ok ⟨⟩ fun t u => trip_twin _ t u).bind fun _ => Twin.refl _).bind fun _ => Twin.refl _

/-- The coordinates of a vector subcore in the kernel's grid. -/
def coords (c : Fin (grid0.bound 0)) (s : Fin (grid0.bound 1)) : grid0.Coords :=
  fun | 0 => c | 1 => s | ⟨_ + 2, h⟩ => absurd h (Nat.not_lt.2 (Nat.le_add_left _ _))

/-- The companion's body table. -/
def defs₀' : Defs nD τ sig (Elt F) Λ₀
  | .scVector c s, 0, _ => SparseCore.onTile hcore0 hsub0 (fun c s => companion (F := F) (coords c s)) ⟨⟩ c s
  | _, ℓ, a => .op (.call ℓ a) .ret

/-- Tile kernels that are twins at every coordinate are so on every vector subcore. -/
theorem onTile_twin {k k' : (c : Fin (grid0.bound 0)) → (s : Fin (grid0.bound 1)) → Prog (TpuEff nD τ sig (Elt F) Λ₀ (.scVector (c.castLE hcore0) (s.castLE hsub0))) PUnit} (h : ∀ c s, Twin (k c s) (k' c s))
    (c : Fin τ.nSC) (s : Fin τ.nSub) :
    Twin (SparseCore.onTile hcore0 hsub0 k ⟨⟩ c s) (SparseCore.onTile hcore0 hsub0 k' ⟨⟩ c s) := by
  unfold SparseCore.onTile
  by_cases hcs : c.val < grid0.bound 0 ∧ s.val < grid0.bound 1
  · rw [dif_pos hcs, dif_pos hcs]; exact h _ _
  · rw [dif_neg hcs, dif_neg hcs]; exact Twin.refl _

theorem tables₀ : Tables (nD := nD) (defs₀ (F := F)) defs₀' := by
  intro p ℓ a
  match p, ℓ, a with
  | .scVector c s, 0, a =>
    exact onTile_twin (fun c s => kernel_twin (coords c s)) c s
  | .tc, ℓ, a => exact Twin.refl _
  | .scScalar c, ℓ, a => exact Twin.refl _

/-- The whole body tables, the kernel's and the companion's. -/
theorem tables : Tables (nD := nD) (Cert.KernelIdeal.defs (F := F)) (sc.defs (Pipeline.defs pcfgs defs₀')) :=
  (tables₀.pipeline).sparseCore

end Cert.Companion

end
-- ==== Proof.Rows.lean ====
/-
  The rows of the two-half buffer, in plain terms: which are one-hot for the present trip, which are zero, which are still the last
  trip's. Clearing and filling sixteen rows move the boundaries.
-/
module

public import proofs.«01_k».proof.Proof.Lanes

@[expose] public section

noncomputable section

namespace Cert.Rows
open Idealize.ShloMosaic Cert.KernelIdeal Cert.KernelIdeal.Gen Cert.Lanes

variable {F : FTy → Type} [FloatOps F]

/-- The two values of a one-hot row. -/
def one : F .f32 := Scalar.ofBits .f32 0x3F800000#32
def zero : F .f32 := Scalar.ofBits .f32 0x00000000#32

/-- The one-hot rows: row `r` of the buffer is that of class `W (b + r)`. -/
def hot (W : Nat → Nat) (b : Nat) (j : S64x1000.Idx) : F .f32 := if (j 1).val = W (b + (j 0).val) then one else zero

/-- Rows below `a` are one-hot for `b`, the next ones below `z` zero, the rest as `prev` has them. -/
def Filled (W : Nat → Nat) (b : Nat) (prev : S64x1000.Idx → F .f32) (a z : Nat) (f : S64x1000.Idx → F .f32) : Prop :=
  ∀ j, f j = if (j 0).val < a then hot W b j else if (j 0).val < z then zero else prev j

open Classical in
/-- The buffer after `c` is scattered at rows `n … n + 15`, columns `cols`. -/
def scattered (n : Nat) (cols : IVec S16 32) (c : F .f32) (f : S64x1000.Idx → F .f32) : S64x1000.Idx → F .f32 :=
  fun j => if ∃ k : Fin 16, (j 0).val = n + k.val ∧ (j 1).val = (cols (lane k)).toNat then c else f j

/-- What the scatter of one value computes is `scattered`. -/
theorem storeIdx_scattered {n : Nat} (hn : n < 4096) (cols : IVec S16 32) (v : FVec F S16 .f32) (c : F .f32) (hv : ∀ x, v x = c)
    (h : ∀ a x, ((![lanesFrom n, cols] : Fin 2 → IVec S16 32) a x).toNat < S64x1000.size a) (f : Vec F S64x1000 .f32) (j : S64x1000.Idx) :
    storeIdx f ![lanesFrom n, cols] v (fun _ => 1#1) false h j = scattered n cols c f j := by
  classical
  rw [storeIdx_const (e := .f32) f ![lanesFrom n, cols] v c hv]
  unfold scattered
  refine if_congr (exists_congr fun k => ?_) rfl rfl
  constructor
  · rintro ⟨-, hk⟩
    exact ⟨(hk 0).trans (lanesFrom_toNat hn k), hk 1⟩
  · rintro ⟨h0, h1⟩
    refine ⟨rfl, fun a => ?_⟩
    fin_cases a
    · exact h0.trans (lanesFrom_toNat hn k).symm
    · exact h1

/-- A scatter among rows `n … n + 15` leaves the other rows. -/
theorem scattered_off {n : Nat} {cols : IVec S16 32} {c : F .f32} {f : S64x1000.Idx → F .f32} {j : S64x1000.Idx}
    (h : (j 0).val < n ∨ n + 16 ≤ (j 0).val) : scattered n cols c f j = f j := by
  unfold scattered
  rw [if_neg]
  rintro ⟨k, hk, -⟩
  have := k.isLt
  omega

/-- Within those rows, each row's named column takes the value. -/
theorem scattered_on {n : Nat} {cols : IVec S16 32} {c : F .f32} {f : S64x1000.Idx → F .f32} {j : S64x1000.Idx} {m : Nat → Nat}
    (hm : ∀ k : Fin 16, (cols (lane k)).toNat = m (n + k.val)) (h : n ≤ (j 0).val ∧ (j 0).val < n + 16) :
    scattered n cols c f j = if (j 1).val = m (j 0).val then c else f j := by
  unfold scattered
  refine if_congr ⟨?_, fun h' => ?_⟩ rfl rfl
  · rintro ⟨k, hk, hk'⟩
    rw [hk', hm, hk]
  · refine ⟨⟨(j 0).val - n, by omega⟩, by show _ = n + ((j 0).val - n); omega, ?_⟩
    rw [hm, h']
    show m _ = m (n + ((j 0).val - n))
    rw [Nat.add_sub_cancel' h.1]

/-- Clearing sixteen one-hot rows of an earlier trip makes them zero. -/
theorem Filled.clear {W : Nat → Nat} {b b' a z : Nat} {f : S64x1000.Idx → F .f32} {cols : IVec S16 32} (h : Filled W b (hot W b') a z f) (haz : a ≤ z)
    (hc : ∀ k : Fin 16, (cols (lane k)).toNat = W (b' + (z + k.val))) : Filled W b (hot W b') a (z + 16) (scattered z cols zero f) := by
  intro j
  by_cases hj : z ≤ (j 0).val ∧ (j 0).val < z + 16
  · rw [scattered_on (m := fun r => W (b' + r)) hc hj, h j]
    unfold hot
    split_ifs <;> first | rfl | omega
  · rw [scattered_off (by omega), h j]
    split_ifs <;> first | rfl | omega

/-- Filling sixteen zero rows makes them one-hot. -/
theorem Filled.put {W : Nat → Nat} {b a z : Nat} {prev f : S64x1000.Idx → F .f32} {cols : IVec S16 32} (h : Filled W b prev a z f) (haz : a + 16 ≤ z)
    (hc : ∀ k : Fin 16, (cols (lane k)).toNat = W (b + (a + k.val))) : Filled W b prev (a + 16) z (scattered a cols one f) := by
  intro j
  by_cases hj : a ≤ (j 0).val ∧ (j 0).val < a + 16
  · rw [scattered_on (m := fun r => W (b + r)) hc hj, h j]
    unfold hot
    split_ifs <;> first | rfl | omega
  · rw [scattered_off (by omega), h j]
    split_ifs <;> first | rfl | omega

/-- On the first trip every row is zero, so any rows count as cleared. -/
theorem Filled.first {W : Nat → Nat} {b a z z' : Nat} {f : S64x1000.Idx → F .f32} (h : Filled W b (fun _ => zero) a z f) (hz : z ≤ z') :
    Filled W b (fun _ => zero) a z' f := by
  intro j
  rw [h j]
  by_cases h1 : (j 0).val < a
  · rw [if_pos h1, if_pos h1]
  · rw [if_neg h1, if_neg h1, ite_self, ite_self]

/-- All sixty-four rows filled: the buffer is one-hot throughout, which is where the next trip starts. -/
theorem Filled.next {W : Nat → Nat} {b b' : Nat} {prev f : S64x1000.Idx → F .f32} (h : Filled W b prev 64 64 f) : Filled W b' (hot W b) 0 0 f := by
  intro j
  have : (j 0).val < 64 := (j 0).isLt
  rw [h j, if_pos this, if_neg (by omega), if_neg (by omega)]

/-- The class numbers kept beside the rows: below `a` the present trip's; the rest, if there was a trip before (`P`), that trip's. -/
def Kept (W : Nat → Nat) (b : Nat) (P : Prop) (b' : Nat) (a : Nat) (g : S64.Idx → BitVec 32) : Prop :=
  ∀ i, ((i 0).val < a → (g i).toNat = W (b + (i 0).val)) ∧ (P → a ≤ (i 0).val → (g i).toNat = W (b' + (i 0).val))

/-- Sixteen more are the present trip's. -/
theorem Kept.put {W : Nat → Nat} {b b' a : Nat} {P : Prop} {g g' : S64.Idx → BitVec 32} (h : Kept W b P b' a g)
    (hon : ∀ i, a ≤ (i 0).val → (i 0).val < a + 16 → (g' i).toNat = W (b + (i 0).val))
    (hoff : ∀ i, ¬ (a ≤ (i 0).val ∧ (i 0).val < a + 16) → g' i = g i) : Kept W b P b' (a + 16) g' := by
  intro i
  by_cases hi : a ≤ (i 0).val ∧ (i 0).val < a + 16
  · exact ⟨fun _ => hon i hi.1 hi.2, fun _ h' => absurd h' (by omega)⟩
  · rw [hoff i hi]
    exact ⟨fun h' => (h i).1 (by omega), fun hP h' => (h i).2 hP (by omega)⟩

/-- All sixty-four are: where the next trip starts. -/
theorem Kept.next {W : Nat → Nat} {b b' b'' : Nat} {P P' : Prop} {g : S64.Idx → BitVec 32} (h : Kept W b P b' 64 g) : Kept W b'' P' b 0 g :=
  fun i => ⟨fun h' => absurd h' (by omega), fun _ _ => (h i).1 (i 0).isLt⟩

/-- The result: row `R` is one-hot at class `W R`. -/
def res (W : Nat → Nat) (j : S106496x1000.Idx) : F .f32 := if (j 1).val = W (j 0).val then one else zero

end Cert.Rows

end
-- ==== Proof.Setup.lean ====
/-
  What the proof of the run is stated over: the program as the launch sees it, the resources, a tile's thread and buffers.
-/
module

public import proofs.«01_k».proof.Proof.Companion
public import proofs.«01_k».proof.Proof.Rows
public import Idealize.ShloMosaic.Lib.SparseCore.Quiescent
public import Idealize.ShloMosaic.Lib.SparseCore.Ops
public import Idealize.ShloMosaic.Lib.SparseCore.Stream
public import Idealize.ShloMosaic.Lib.Transfers
public import Idealize.ShloMosaic.Lib.StableHlo.Run
public import Idealize.ShloMosaic.Lib.Pipeline.Kit
public import Idealize.ShloMosaic.Lib.Tactic

@[expose] public section

noncomputable section

namespace Cert.Setup
open Cert.KernelIdeal Cert.KernelIdeal.Gen Cert.Companion
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 0) fun p => (pcfgs (F := F) p).Adm
abbrev K : SparseCore.Cfg τ sig (ΛP (F := F)) 1 := sc (F := F)
abbrev 𝒱₀ : Variants := Variants.none

abbrev UH : Type := URounds (GSem nD τ sig) ℕ
abbrev UU : Type := UH × Counters
/-- The propositions of the proof. -/
abbrev HP (F : FTy → Type) : Type := sProp (MT nD τ sig (HIx 1) (Elt F) ℕ UU ℕ)

/-- The thread of the tile at coordinates `L`. -/
abbrev thr (d : Dev nD) (L : grid0.Coords) : Thread nD τ := (d, proc L)

/-- A tile's buffers, and the launch's two arrays as the tile names them. -/
abbrev xLoc (d : Dev nD) (L : grid0.Coords) : Loc nD τ sig := (xV).view.loc (thr d L)
abbrev bLoc (d : Dev nD) (L : grid0.Coords) : Loc nD τ sig := (bV).view.loc (thr d L)
abbrev cLoc (d : Dev nD) (L : grid0.Coords) : Loc nD τ sig := (cV).view.loc (thr d L)
abbrev iLoc (d : Dev nD) (L : grid0.Coords) : Loc nD τ sig := (iV).view.loc (thr d L)
abbrev oLoc (d : Dev nD) (L : grid0.Coords) : Loc nD τ sig := (oV).view.loc (thr d L)

/-- The run of a program of the tile. -/
abbrev run [FloatOps F] (d : Dev nD) (L : grid0.Coords) {α : Type} (p : TProg F L α) (Q : α → HP F) : HP F :=
  wp frame (wpE (defs₀' (F := F)) 𝒱₀ (thr d L) none) Set.univ p Q

theorem run_ret [FloatOps F] (d : Dev nD) (L : grid0.Coords) {α : Type} (a : α) (Q : α → HP F) : Q a ⊢ run d L (.ret a) Q :=
  le_wp_ret _ _ _ a Q

end Cert.Setup

end
-- ==== Proof.Half.lean ====
/-
  The steps of a half's part of a trip: a scatter into one half while the other half may be on its way out.
-/
module

public import proofs.«01_k».proof.Proof.Setup
public import Idealize.ShloMosaic.Lib.Pipeline.ValueKit.Tiles

@[expose] public section

noncomputable section

namespace Cert.Half
open Cert.KernelIdeal Cert.KernelIdeal.Gen Cert.Companion Cert.Setup Cert.Lanes Cert.Rows Cert.Twin
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] {d : Dev nD} {L : grid0.Coords} {α : Type} {Q : α → HP F}

/-- Rows `o … o + 31` of the buffer. -/
def band (o : Nat) : Finset S64x1000.Idx := Finset.univ.filter fun j => o ≤ (j 0).val ∧ (j 0).val < o + 32

theorem mem_band {o : Nat} {j : S64x1000.Idx} : j ∈ band o ↔ o ≤ (j 0).val ∧ (j 0).val < o + 32 := by simp [band]

theorem mem_halfRect {o : Nat} (ho : ∀ a, (![o, 0] : Fin 2 → Nat) a + S32x1000.size a ≤ S64x1000.size a) {j : S64x1000.Idx} :
    j ∈ (halfRect o ho).set ↔ o ≤ (j 0).val ∧ (j 0).val < o + 32 := by
  rw [Rect.mem_set_unit]
  constructor
  · intro h; exact h 0
  · intro h a
    fin_cases a
    · exact h
    · exact ⟨Nat.zero_le _, by show (j 1).val < 0 + 1000; have : (j 1).val < 1000 := (j 1).isLt; omega⟩

theorem set_halfRect {o : Nat} (ho : ∀ a, (![o, 0] : Fin 2 → Nat) a + S32x1000.size a ≤ S64x1000.size a) : (halfRect o ho).set = band o := by
  ext j; rw [mem_halfRect, mem_band]

theorem set_access {o : Nat} (ho : ∀ a, (![o, 0] : Fin 2 → Nat) a + S32x1000.size a ≤ S64x1000.size a) : ((bV).access (halfRect o ho)).set = band o := by
  rw [View.set_slice, ← set_halfRect ho]
  exact Finset.map_refl

/-- The whole buffer at the left share and the half from row `o` at the right one. -/
def Hold (d : Dev nD) (L : grid0.Coords) (o : Nat) (f : S64x1000.Idx → F .f32) : HP F :=
  iprop((bLoc d L ↦{fullShare.left} (f : Buf (Elt F) (bLoc d L))) ∗ (bLoc d L ↦[band o]{fullShare.right} (f : Buf (Elt F) (bLoc d L))))

/-- Contents that agree on the elements held are as good. -/
theorem pts_congr {ℓ : Loc nD τ sig} {I : Finset (Idx ℓ)} {q : PosShare TreeShare} {f g : Buf (Elt F) ℓ} (h : ∀ i ∈ I, f i = g i) :
    (ℓ ↦[I]{q} f : HP F) ⊢ ℓ ↦[I]{q} g := Entails.of_eq (pointsTo_congr h)

/-- Holding the half at the full share lets it be stored: what is held beside it stays. -/
theorem Hold_open (o : Nat) (f : S64x1000.Idx → F .f32) :
    Hold d L o f ⊢ iprop((bLoc d L ↦[band o]{fullShare} (f : Buf (Elt F) (bLoc d L))) ∗ (bLoc d L ↦[Finset.univ \ band o]{fullShare.left} (f : Buf (Elt F) (bLoc d L)))) := by
  unfold Hold
  iintro ⟨Hl, Hr⟩
  ihave H := (pointsTo_split_subset (Finset.subset_univ (band o))).1 $$ Hl
  icases H with ⟨Ha, Hb⟩
  isplitr [Hb]
  · iapply (pointsTo_share (PosShare.mem_left_op_right fullShare)).2 $$ [Ha Hr]
    isplitl [Ha] <;> iassumption
  · iexact Hb

theorem Hold_close (o : Nat) (f g : S64x1000.Idx → F .f32) (hg : ∀ j, j ∉ band o → g j = f j) :
    iprop((bLoc d L ↦[band o]{fullShare} (g : Buf (Elt F) (bLoc d L))) ∗ (bLoc d L ↦[Finset.univ \ band o]{fullShare.left} (f : Buf (Elt F) (bLoc d L))))
      ⊢ Hold d L o g := by
  unfold Hold
  iintro ⟨Ha, Hb⟩
  ihave Hb := (pts_congr (ℓ := bLoc d L) (I := Finset.univ \ band o) (f := f) (g := g) (fun j hj => (hg j (Finset.mem_sdiff.mp hj).2).symm)) $$ Hb
  ihave H := (pointsTo_share (PosShare.mem_left_op_right fullShare)).1 $$ Ha
  icases H with ⟨Hl, Hr⟩
  isplitr [Hr]
  · iapply (pointsTo_split_subset (Finset.subset_univ (band o))).2 $$ [Hl Hb]
    isplitl [Hl] <;> iassumption
  · iexact Hr

/-- What storing the half writes on it. -/
theorem write_half {o : Nat} (ho : ∀ a, (![o, 0] : Fin 2 → Nat) a + S32x1000.size a ≤ S64x1000.size a) (f g h : S64x1000.Idx → F .f32)
    (hg : ∀ j, j ∈ band o → g j = h j) :
    ∀ j ∈ band o, ((bV).access (halfRect o ho)).write (Elt F) f (fun x => g ((halfRect o ho).idx x)) Finset.univ j = h j := by
  intro j hj
  rw [← hg j hj]
  rw [← set_halfRect ho] at hj
  obtain ⟨x, rfl⟩ := LoadRect.exists_idx_of_mem _ hj
  exact View.write_emb_of_mem (v := (bV).access (halfRect o ho)) (Val := Elt F) f _ (Finset.mem_univ x)

/-- A scatter of one value among the half's rows. -/
theorem run_scat {o : Nat} (ho : ∀ a, (![o, 0] : Fin 2 → Nat) a + S32x1000.size a ≤ S64x1000.size a) {n : Nat} (hn : o ≤ n ∧ n + 16 ≤ o + 32) (hn' : n < 4096)
    (cols : IVec S16 32) (v : FVec F S16 .f32) (c : F .f32) (hv : ∀ x, v x = c)
    (h : ∀ a x, ((![lanesFrom n, cols] : Fin 2 → IVec S16 32) a x).toNat < S64x1000.size a) (k : PUnit → TProg F L α) (f : S64x1000.Idx → F .f32) :
    iprop(Hold d L o f ∗ (Hold d L o (scattered n cols c f) -∗ run d L (k ⟨⟩) Q))
      ⊢ run d L (scat (halfRect o ho) (half_stores o ho) (lanesFrom n) cols v h k) Q := by
  unfold scat
  iintro ⟨H, Hk⟩
  ihave H := (show Hold d L o f ⊢ iprop((bLoc d L ↦{fullShare.left} (f : Buf (Elt F) (bLoc d L))) ∗ (bLoc d L ↦[band o]{fullShare.right} (f : Buf (Elt F) (bLoc d L)))) from .rfl) $$ H
  icases H with ⟨Hl, Hr⟩
  iapply (wp_load 𝒱₀ (thr d L) none Set.univ (S := Finset.univ) (Finset.subset_univ _)) $$ Hl
  iintro Hl
  rw [show (bV).view.readAt (Elt F) (Rect.whole S64x1000).toLoadRect f = f from Memref.readAt_whole (Elt F) cc0_scratch1 f]
  unfold tail
  iapply (wp_load 𝒱₀ (thr d L) none Set.univ (S := Finset.univ) (Finset.subset_univ _)) $$ Hl
  iintro Hl
  rw [show (bV).view.readAt (Elt F) (Rect.whole S64x1000).toLoadRect f = f from Memref.readAt_whole (Elt F) cc0_scratch1 f]
  iapply (wp_assume 𝒱₀ (thr d L) none Set.univ (fun j _ => rfl))
  ihave H := (Hold_open (d := d) (L := L) o f) $$ [Hl Hr]
  · unfold Hold
    isplitl [Hl] <;> iassumption
  icases H with ⟨Ha, Hb⟩
  iapply (wp_store 𝒱₀ (thr d L) none Set.univ (m := bV) (r := halfRect o ho) (S := band o) (f := f) (by rw [View.setOn_univ, set_access ho])) $$ Ha
  iintro Ha
  iapply Hk
  ihave Ha := (pts_congr (ℓ := bLoc d L) (I := band o) (g := scattered n cols c f) (write_half ho _ _ _ (fun j _ => storeIdx_scattered hn' cols v c hv h f j))) $$ Ha
  iapply (Hold_close o f _ (fun j hj => scattered_off (by rw [mem_band] at hj; omega))) $$ [Ha Hb]
  isplitl [Ha] <;> iassumption

theorem mem_words {n : Nat} (hn : ∀ a, (![n] : Fin 1 → Nat) a + S16.size a ≤ S64.size a) {i : S64.Idx} :
    i ∈ (Rect.unit (s := S64) ![n] S16.size hn).set ↔ n ≤ (i 0).val ∧ (i 0).val < n + 16 := by
  rw [Rect.mem_set_unit]
  exact ⟨fun h => h 0, fun h a => by fin_cases a; exact h⟩

theorem inside_of {n : Nat} (hn : n + 16 ≤ 64) {v : IVec S16 32} (hv : ∀ k : Fin 16, (v (lane k)).toNat < 1000) : Inside n v := by
  intro a x
  obtain ⟨k, rfl⟩ := lane_of x
  fin_cases a
  · show (lanesFrom n (lane k)).toNat < 64
    rw [lanesFrom_toNat (by omega)]
    have := k.isLt
    omega
  · exact hv k

/-- What sixteen words read from word `n` of the kept class numbers are. -/
theorem kept_lane {n : Nat} (hn : ∀ a, (![n] : Fin 1 → Nat) a + S16.size a ≤ S64.size a) (g : S64.Idx → BitVec 32) (k : Fin 16) :
    ∃ i : S64.Idx, (i 0).val = n + k.val ∧ (cV).view.readAt (Elt F) (Rect.unit (s := S64) ![n] S16.size hn).toLoadRect g (lane k) = g i := by
  refine ⟨(Rect.unit (s := S64) ![n] S16.size hn).idx (lane k), ?_, rfl⟩
  rw [Rect.idx_unit_val]
  rfl

theorem class_lane {off : Fin 1 → Nat} (hoff : ∀ a, off a + S16.size a ≤ S3328.size a) (g : S3328.Idx → BitVec 32) (k : Fin 16) :
    ∃ i : S3328.Idx, (i 0).val = off 0 + k.val ∧ (xV).view.readAt (Elt F) (Rect.unit (s := S3328) off S16.size hoff).toLoadRect g (lane k) = g i := by
  refine ⟨(Rect.unit (s := S3328) off S16.size hoff).idx (lane k), ?_, rfl⟩
  rw [Rect.idx_unit_val]
  rfl

/-- Clearing sixteen rows of the last trip. -/
theorem run_clear {o : Nat} (ho : ∀ a, (![o, 0] : Fin 2 → Nat) a + S32x1000.size a ≤ S64x1000.size a) {n : Nat} (hon : o ≤ n ∧ n + 16 ≤ o + 32)
    (hn64 : n + 16 ≤ 64) (hn : ∀ a, (![n] : Fin 1 → Nat) a + S16.size a ≤ S64.size a)
    (C : IVec S16 32 → Prop) (dec : ∀ v, Decidable (C v)) (hC : ∀ v, C v → Inside n v) (hC' : ∀ v, Inside n v → C v) (k : PUnit → TProg F L α)
    {W : Nat → Nat} (hW : ∀ r, W r < 1000) {b b' a : Nat} (ha : a ≤ n) {f : S64x1000.Idx → F .f32} (hf : Filled W b (hot W b') a n f)
    {g : S64.Idx → BitVec 32} (hg : Kept W b True b' a g) :
    iprop(Hold d L o f ∗ (cLoc d L ↦{fullShare} (g : Buf (Elt F) (cLoc d L)))
        ∗ (((∃ f', ⌜Filled W b (hot W b') a (n + 16) f'⌝ ∗ Hold d L o f') ∗ (cLoc d L ↦{fullShare} (g : Buf (Elt F) (cLoc d L)))) -∗ run d L (k ⟨⟩) Q))
      ⊢ run d L (clear (halfRect o ho) (half_stores o ho) n hn C dec hC k) Q := by
  unfold clear
  iintro ⟨H, Hg, Hk⟩
  iapply (wp_load 𝒱₀ (thr d L) none Set.univ (S := Finset.univ) (Finset.subset_univ _)) $$ Hg
  iintro Hg
  generalize hv : (cV).view.readAt (Elt F) (Rect.unit (s := S64) ![n] S16.size hn).toLoadRect g = v
  have hv' : ∀ k : Fin 16, (v (lane k) : BitVec 32).toNat = W (b' + (n + k.val)) := by
    intro k
    obtain ⟨i, hi, he⟩ := kept_lane (F := F) hn g k
    rw [← hv, he, (hg i).2 trivial (by omega), hi]
  iapply (wp_assume 𝒱₀ (thr d L) none Set.univ (hC' v (inside_of hn64 fun k => (hv' k).symm ▸ hW _)))
  iapply (run_scat ho hon (by omega) v k0_pay5 zero pay5_const _ k f) $$ [H Hg Hk]
  isplitl [H]; · iexact H
  iintro H
  iapply Hk
  isplitl [H]
  · iexists _
    isplitr; · ipureintro; exact hf.clear ha hv'
    iexact H
  · iexact Hg

/-- Filling sixteen zero rows for the present trip. -/
theorem run_put {o : Nat} (ho : ∀ a, (![o, 0] : Fin 2 → Nat) a + S32x1000.size a ≤ S64x1000.size a) {n : Nat} (hon : o ≤ n ∧ n + 16 ≤ o + 32)
    (hn64 : n + 16 ≤ 64) (hn : ∀ a, (![n] : Fin 1 → Nat) a + S16.size a ≤ S64.size a)
    (off : Fin 1 → Nat) (hoff : ∀ a, off a + S16.size a ≤ S3328.size a)
    (C : IVec S16 32 → Prop) (dec : ∀ v, Decidable (C v)) (hC : ∀ v, C v → Inside n v) (hC' : ∀ v, Inside n v → C v) (k : PUnit → TProg F L α)
    {W : Nat → Nat} (hW : ∀ r, W r < 1000) {b b' z B : Nat} {P : Prop} {prev : S64x1000.Idx → F .f32} (hz : n + 16 ≤ z)
    {f : S64x1000.Idx → F .f32} (hf : Filled W b prev n z f) {g : S64.Idx → BitVec 32} (hg : Kept W b P b' n g)
    {x : S3328.Idx → BitVec 32} (hx : ∀ i, (x i).toNat = W (B + (i 0).val)) (hB : B + off 0 = b + n) :
    iprop(Hold d L o f ∗ (cLoc d L ↦{fullShare} (g : Buf (Elt F) (cLoc d L))) ∗ (xLoc d L ↦{fullShare} (x : Buf (Elt F) (xLoc d L)))
        ∗ (((∃ f', ⌜Filled W b prev (n + 16) z f'⌝ ∗ Hold d L o f')
            ∗ (∃ g' : S64.Idx → BitVec 32, ⌜Kept W b P b' (n + 16) g'⌝ ∗ (cLoc d L ↦{fullShare} (g' : Buf (Elt F) (cLoc d L))))
            ∗ (xLoc d L ↦{fullShare} (x : Buf (Elt F) (xLoc d L)))) -∗ run d L (k ⟨⟩) Q))
      ⊢ run d L (put (halfRect o ho) (half_stores o ho) n hn off hoff C dec hC k) Q := by
  unfold put
  iintro ⟨H, Hg, Hx, Hk⟩
  iapply (wp_load 𝒱₀ (thr d L) none Set.univ (S := Finset.univ) (Finset.subset_univ _)) $$ Hx
  iintro Hx
  generalize hv : (xV).view.readAt (Elt F) (Rect.unit (s := S3328) off S16.size hoff).toLoadRect x = v
  have hv' : ∀ k : Fin 16, (v (lane k) : BitVec 32).toNat = W (b + (n + k.val)) := by
    intro k
    obtain ⟨i, hi, he⟩ := class_lane (F := F) hoff x k
    rw [← hv, he, hx, hi]
    congr 1
    omega
  iapply (wp_assume 𝒱₀ (thr d L) none Set.univ (hC' v (inside_of hn64 fun k => (hv' k).symm ▸ hW _)))
  iapply (run_scat ho hon (by omega) v k0_pay6 one pay6_const _ _ f) $$ [H Hg Hx Hk]
  isplitl [H]; · iexact H
  iintro H
  iapply (wp_load 𝒱₀ (thr d L) none Set.univ (S := Finset.univ) (Finset.subset_univ _)) $$ Hg
  iintro Hg
  iapply (wp_store 𝒱₀ (thr d L) none Set.univ (m := cV) (r := Rect.unit (s := S64) ![n] S16.size hn) (S := Finset.univ) (f := g) (Finset.subset_univ _)) $$ Hg
  iintro Hg
  iapply Hk
  isplitl [H]
  · iexists _
    isplitr; · ipureintro; exact hf.put hz hv'
    iexact H
  isplitl [Hg]
  · iexists _
    isplitr [Hg]; rotate_left 1; · iexact Hg
    ipureintro
    refine hg.put (fun i h1 h2 => ?_) (fun i hi => ?_)
    · obtain ⟨y, rfl⟩ := LoadRect.exists_idx_of_mem _ ((mem_words hn).mpr ⟨h1, h2⟩)
      obtain ⟨k, rfl⟩ := lane_of y
      rw [show ((cV).access (Rect.unit (s := S64) ![n] S16.size hn)).write (Elt F) g v Finset.univ ((Rect.unit (s := S64) ![n] S16.size hn).idx (lane k)) = v (lane k) from
        View.write_emb_of_mem (v := (cV).access (Rect.unit (s := S64) ![n] S16.size hn)) (Val := Elt F) g v (Finset.mem_univ (lane k)), hv', Rect.idx_unit_val]
      rfl
    · refine View.write_of_not_mem (v := (cV).access (Rect.unit (s := S64) ![n] S16.size hn)) (Val := Elt F) g v Finset.univ fun hm => hi ?_
      rw [View.setOn_univ, View.set_slice] at hm
      exact (mem_words hn).mp (by have := hm; rwa [show Finset.map (cV).view.emb (Rect.unit (s := S64) ![n] S16.size hn).set = _ from Finset.map_refl] at this)
  · iexact Hx

end Cert.Half

end
-- ==== Proof.Wipe.lean ====
/-
  The loop that makes the buffer zero: a trip makes one row zero, sixteen columns at a time and the last eight by a masked scatter.
-/
module

public import proofs.«01_k».proof.Proof.Half

@[expose] public section

noncomputable section

namespace Cert.Wipe
open Cert.KernelIdeal Cert.KernelIdeal.Gen Cert.Companion Cert.Setup Cert.Lanes Cert.Rows Cert.Twin Cert.Half
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] {d : Dev nD} {L : grid0.Coords} {α : Type} {Q : α → HP F}

/-- The rows above row `t` are zero, and so are the first `n` columns of row `t`. -/
def Zeroed (t n : Nat) (f : S64x1000.Idx → F .f32) : Prop := ∀ j, ((j 0).val < t ∨ (j 0).val = t ∧ (j 1).val < n) → f j = zero

/-- The buffer, outright, with that much of it zero. -/
def Wiped (d : Dev nD) (L : grid0.Coords) (t n : Nat) : HP F :=
  iprop(∃ f : S64x1000.Idx → F .f32, ⌜Zeroed t n f⌝ ∗ (bLoc d L ↦{fullShare} (f : Buf (Elt F) (bLoc d L))))

/-- A load of the buffer changes nothing. -/
theorem wiped_load {t n : Nat} {r : LoadRect S64x1000} {hl : (bV).view.LoadsAt r} {k : _ → TProg F L α}
    (h : ∀ v, Wiped d L t n ⊢ run d L (k v) Q) :
    Wiped d L t n ⊢ run d L (.op (.load bV r hl) k) Q := by
  unfold Wiped at h ⊢
  iintro ⟨%f, %hf, H⟩
  iapply (wp_load 𝒱₀ (thr d L) none Set.univ (S := Finset.univ) (Finset.subset_univ _)) $$ H
  iintro H
  iapply (h _)
  iexists f
  isplitr; · ipureintro; exact hf
  iexact H

/-- Storing zeros at the next sixteen columns of the row. -/
theorem wiped_store {t n : Nat} {off : Fin 2 → Nat} [c : ClosedOff off] {hoff : ∀ a, off a + S1x16.size a ≤ S64x1000.size a}
    {hs : ((bV).access (Rect.unit (s := S64x1000) off S1x16.size hoff)).Stores Finset.univ} {hm} {k : PUnit → TProg F L α}
    (hc : c.form = ![t, n]) (h : Wiped d L t (n + 16) ⊢ run d L (k ⟨⟩) Q) :
    Wiped d L t n ⊢ run d L (.op (.store bV (Rect.unit (s := S64x1000) off S1x16.size hoff) (shapeCast S1x16 (k0_pay5 (F := F)) shapeCasts_S16_S1x16) Finset.univ hs hm) k) Q := by
  have he : off = ![t, n] := c.eq.trans hc
  subst he
  unfold Wiped at h ⊢
  iintro ⟨%f, %hf, H⟩
  iapply (wp_store 𝒱₀ (thr d L) none Set.univ (m := bV) (r := Rect.unit (s := S64x1000) ![t, n] S1x16.size hoff) (S := Finset.univ) (f := f) (Finset.subset_univ _)) $$ H
  iintro H
  iapply h
  iexists _
  isplitr [H]; rotate_left 1; · iexact H
  ipureintro
  intro j hj
  by_cases hm : j ∈ (Rect.unit (s := S64x1000) ![t, n] S1x16.size hoff).set
  · obtain ⟨x, rfl⟩ := LoadRect.exists_idx_of_mem _ hm
    exact View.write_emb_of_mem (v := (bV).access (Rect.unit (s := S64x1000) ![t, n] S1x16.size hoff)) (Val := Elt F) f _ (Finset.mem_univ x)
  · refine (View.write_of_not_mem (v := (bV).access (Rect.unit (s := S64x1000) ![t, n] S1x16.size hoff)) (Val := Elt F) f _ Finset.univ fun hm' => hm ?_).trans (hf j ?_)
    · rw [View.setOn_univ, View.set_slice] at hm'
      rwa [show Finset.map (bV).view.emb (Rect.unit (s := S64x1000) ![t, n] S1x16.size hoff).set = _ from Finset.map_refl] at hm'
    · rw [Rect.mem_set_unit] at hm
      have hm2 : ¬ ((t ≤ (j 0).val ∧ (j 0).val < t + 1) ∧ (n ≤ (j 1).val ∧ (j 1).val < n + 16)) := fun h => hm fun a => by
        fin_cases a
        · exact h.1
        · exact h.2
      omega

/-- The mask holds the first eight lanes. -/
theorem mask_lane : ∀ k : Fin 16, k.val < 8 → k0_pay7 (lane k) = 1 := by
  intro k hk
  show BitVec.ofBool (BitVec.slt (BitVec.ofNat 32 (0 * 16 + (lane k 0).val)) 8#32) = 1
  rw [lane_zero]
  revert k
  decide

/-- Lane `k` of the last columns is column `992 + k`, or the last one if that is less. -/
theorem cols_lane : ∀ k : Fin 16, (k0_pay8 (lane k)).toNat = min (992 + k.val) 999 := by
  intro k
  show (IntOp.minsi (992#32 + BitVec.ofNat 32 (0 * 16 + (lane k 0).val)) 999#32).toNat = _
  rw [lane_zero]
  revert k
  decide

/-- The masked scatter of zeros at columns 992 … 999 of the row ends it. -/
theorem Zeroed.last {t : Nat} {f : S64x1000.Idx → F .f32} (hf : Zeroed t 992 f) {rows : IVec S16 32} (hr : ∀ x, (rows x).toNat = t)
    (h : ∀ a x, ((![rows, k0_pay8] : Fin 2 → IVec S16 32) a x).toNat < S64x1000.size a) :
    Zeroed (t + 1) 0 (storeIdx (s := S64x1000) (e := .f32) (F := F) f ![rows, k0_pay8] k0_pay5 k0_pay7 false h) := by
  classical
  intro j hj
  refine (storeIdx_const (s := S64x1000) (e := .f32) f (![rows, k0_pay8] : Fin 2 → IVec S16 32) k0_pay5 zero pay5_const k0_pay7 h j).trans ?_
  by_cases hn : (j 0).val < t ∨ (j 0).val = t ∧ (j 1).val < 992
  · rw [hf j hn, ite_self]
  · have h1 : (j 1).val < 1000 := (j 1).isLt
    refine if_pos ⟨⟨(j 1).val - 992, by omega⟩, mask_lane _ (show (j 1).val - 992 < 8 by omega), fun a => ?_⟩
    fin_cases a
    · show (j 0).val = (rows (lane _)).toNat
      rw [hr]
      omega
    · show (j 1).val = (k0_pay8 (lane _)).toNat
      rw [cols_lane]
      show (j 1).val = min (992 + ((j 1).val - 992)) 999
      omega

/-- The masked scatter of zeros at columns 992 … 999 of the row ends it. -/
theorem wiped_scatter {t : Nat} {rows : IVec S16 32} (hr : ∀ x, (rows x).toNat = t)
    {h : ∀ a x, ((![rows, k0_pay8] : Fin 2 → IVec S16 32) a x).toNat < S64x1000.size a}
    {hs : ((bV).access (.whole S64x1000)).Stores Finset.univ} {k : PUnit → TProg F L α}
    (hk : Wiped d L (t + 1) 0 ⊢ run d L (k ⟨⟩) Q) :
    Wiped d L t 992 ⊢ run d L (SparseCore.vectorStoreIdx bV ![rows, k0_pay8] (k0_pay5 (F := F)) k0_pay7 false h hs >>= k) Q := by
  unfold Wiped at hk ⊢
  have hset : ((bV).access (Rect.whole S64x1000)).set = (Finset.univ : Finset S64x1000.Idx) := Memref.set_access_whole cc0_scratch1
  have hread : ∀ f : S64x1000.Idx → F .f32, ((bV).access (Rect.whole S64x1000)).read (Elt F) f = f := Memref.read_access_whole (Elt F) cc0_scratch1
  have hwrite : ∀ f w : S64x1000.Idx → F .f32, ((bV).access (Rect.whole S64x1000)).write (Elt F) f w Finset.univ = w := Memref.write_access_whole_univ (Elt F) cc0_scratch1
  iintro ⟨%f, %hf, H⟩
  iapply (SparseCore.wp_vectorStoreIdx 𝒱₀ (thr d L) none Set.univ (f := f)) $$ [H]
  · rw [hset]; iexact H
  iintro H
  iapply hk
  rw [hset, hread, hwrite]
  iexists _
  isplitr [H]; rotate_left 1; · iexact H
  ipureintro
  exact hf.last hr h

/-- A trip's word is its number. -/
theorem iv_toNat : ∀ t : Fin k0_t1_loop.trips, (Scf.iv 0#32 1#32 t).toNat = t.val := by decide +kernel

theorem iv_rows (t : Fin k0_t1_loop.trips) (x : S16.Idx) : (broadcast S16 (Scf.iv 0#32 1#32 t) x : BitVec 32).toNat = t.val := iv_toNat t

/-- A side condition that holds is passed. -/
theorem wiped_assume {t n : Nat} {C : Prop} {dec : Decidable C} {k : PLift C → TProg F L α} (hC : C) (h : Wiped d L t n ⊢ run d L (k ⟨hC⟩) Q) :
    Wiped d L t n ⊢ run d L (.op (.assume C dec) k) Q := by
  iintro H
  iapply (wp_assume 𝒱₀ (thr d L) none Set.univ hC)
  iapply h $$ H

/-- A trip makes a row zero. -/
theorem run_wipe (t : Fin k0_t1_loop.trips) (u : Unit) : Wiped d L t.val 0 ⊢ run d L (wipe (F := F) t u) fun _ => Wiped d L (t.val + 1) 0 := by
  have ht : t.val < 64 := t.isLt
  have hin : k0_chk1 (broadcast S16 (Scf.iv 0#32 1#32 t)) k0_pay8 := by
    intro a x
    obtain ⟨k, rfl⟩ := lane_of x
    fin_cases a
    · show (Scf.iv 0#32 1#32 t).toNat < 64
      rw [iv_toNat]; exact ht
    · show (k0_pay8 (lane k)).toNat < 1000
      rw [cols_lane]
      have := k.isLt
      omega
  unfold wipe k0_t1_body
  simp only [k0_part1_eq_skeleton, k0_part2_eq_skeleton, k0_part3_eq_skeleton, k0_part4_eq_skeleton, k0_part5_eq_skeleton]
  iterate 11
    refine wiped_load fun _ => ?_
    refine wiped_store rfl ?_
  refine wiped_load fun _ => ?_
  iterate 50
    refine wiped_store rfl ?_
    refine wiped_load fun _ => ?_
  refine wiped_store rfl ?_
  refine wiped_assume hin ?_
  exact wiped_scatter (iv_rows t) (run_ret d L (PUnit.unit : Unit) fun _ => Wiped d L (t.val + 1) 0)

/-- The loop makes the buffer zero. -/
theorem run_wipes : Wiped d L 0 0 ⊢ run d L (Scf.Loop.for k0_t1_loop k0_t1_ok (() : Unit) (wipe (F := F) (L := L)))
    fun _ => (bLoc d L ↦{fullShare} ((fun _ => zero : S64x1000.Idx → F .f32) : Buf (Elt F) (bLoc d L)) : HP F) := by
  iintro H
  iapply (Scf.wp_for frame (wpE (defs₀' (F := F)) 𝒱₀ (thr d L) none) Set.univ _ _ _ k0_t1_ok () (wipe (F := F) (L := L)) (fun k _ => Wiped d L k 0) (fun t u => run_wipe t u))
  isplitl [H]; · iexact H
  iintro %u H
  rw [show Scf.trips k0_t1_loop.lb k0_t1_loop.ub k0_t1_loop.st = 64 by decide]
  ihave H := (show Wiped d L 64 0 ⊢ iprop(∃ f : S64x1000.Idx → F .f32, ⌜Zeroed 64 0 f⌝ ∗ (bLoc d L ↦{fullShare} (f : Buf (Elt F) (bLoc d L)))) from .rfl) $$ H
  icases H with ⟨%f, %hf, H⟩
  iapply (pts_congr (ℓ := bLoc d L) (I := Finset.univ) (f := f) fun j _ => hf j (.inl (j 0).isLt)) $$ H

end Cert.Wipe

end
-- ==== Proof.Send.lean ====
/-
  A half's part of a trip, whole: the copy out, the wait for it, and between them the clearing and the filling of the half's rows.
-/
module

public import proofs.«01_k».proof.Proof.Half

@[expose] public section

noncomputable section

namespace Cert.Send
open Cert.KernelIdeal Cert.KernelIdeal.Gen Cert.Companion Cert.Setup Cert.Lanes Cert.Rows Cert.Twin Cert.Half
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] {d : Dev nD} {L : grid0.Coords} {α : Type} {Q : α → HP F}

/-- Rows `a … a + n - 1` of the result. -/
def span (a n : Nat) : Finset S106496x1000.Idx := Finset.univ.filter fun j => a ≤ (j 0).val ∧ (j 0).val < a + n

theorem mem_span {a n : Nat} {j : S106496x1000.Idx} : j ∈ span a n ↔ a ≤ (j 0).val ∧ (j 0).val < a + n := by simp [span]

/-- The rows of the result that a copy at `off` writes. -/
abbrev outRect (off : Fin 2 → Nat) (hoff : ∀ a, off a + S32x1000.size a ≤ S106496x1000.size a) : Rect S106496x1000 :=
  Rect.unit (s := S106496x1000) off S32x1000.size hoff

theorem set_outRect {off : Fin 2 → Nat} (hoff : ∀ a, off a + S32x1000.size a ≤ S106496x1000.size a) (h1 : off 1 = 0) :
    (outRect off hoff).set = span (off 0) 32 := by
  ext j
  rw [mem_span, Rect.mem_set_unit]
  constructor
  · intro h; exact h 0
  · intro h a
    fin_cases a
    · exact h
    · show off 1 ≤ (j 1).val ∧ (j 1).val < off 1 + 1000
      have : (j 1).val < 1000 := (j 1).isLt
      omega

/-- The units a copy of thirty-two rows counts. -/
abbrev credit : Nat := ((oV).slice (outRect ![0, 0] inb_S106496x1000_S32x1000_0_0) (fun _ => rfl)).view.dmaCredit

/-- What a copy of the half from row `o` delivers, the buffer's row `r` holding class `W (b + r)`. -/
abbrev Landed (d : Dev nD) (L : grid0.Coords) (W : Nat → Nat) (b o : Nat) : HP F :=
  iprop((oLoc d L ↦[span (b + o) 32]{fullShare} (res W : Buf (Elt F) (oLoc d L))) ∗ (bLoc d L ↦[band o]{fullShare.right} (hot W b : Buf (Elt F) (bLoc d L))))

/-- The copy in flight. -/
abbrev Flying (d : Dev nD) (L : grid0.Coords) (sm : DmaSem sig) (W : Nat → Nat) (b o : Nat) : HP F :=
  Transfers.Flight countersEmb (thr d L) (.dma sm) (default : HIx 1) credit (Landed d L W b o)

/-- The copy of a half filled for `b`. -/
theorem run_send {o : Nat} (ho : ∀ a, (![o, 0] : Fin 2 → Nat) a + S32x1000.size a ≤ S64x1000.size a) (sm : DmaSem sig)
    (off : Fin 2 → Nat) (hoff : ∀ a, off a + S32x1000.size a ≤ S106496x1000.size a) (k : PUnit → TProg F L α)
    {W : Nat → Nat} {b : Nat} (h0 : off 0 = b + o) (h1 : off 1 = 0) {f : S64x1000.Idx → F .f32} (hf : ∀ j ∈ band o, f j = hot W b j)
    (y : S106496x1000.Idx → F .f32) :
    iprop(Hold d L o f ∗ (oLoc d L ↦[span (b + o) 32]{fullShare} (y : Buf (Elt F) (oLoc d L))) ∗ semVal (thr d L, .dma sm) 0
        ∗ (((bLoc d L ↦{fullShare.left} (f : Buf (Elt F) (bLoc d L))) ∗ Flying d L sm W b o) -∗ run d L (k ⟨⟩) Q))
      ⊢ run d L (send o ho sm off hoff k) Q := by
  unfold send
  iintro ⟨H, Ho, Hv, Hk⟩
  ihave H := (show Hold d L o f ⊢ iprop((bLoc d L ↦{fullShare.left} (f : Buf (Elt F) (bLoc d L))) ∗ (bLoc d L ↦[band o]{fullShare.right} (f : Buf (Elt F) (bLoc d L)))) from .rfl) $$ H
  icases H with ⟨Hl, Hr⟩
  have hS : ((bV).slice (halfRect o ho) (fun _ => rfl)).view.set = band o := set_access ho
  have hD : ((oV).slice (outRect off hoff) (fun _ => rfl)).view.set = span (b + o) 32 := by
    rw [← h0, ← set_outRect hoff h1]
    exact (View.set_slice _ _).trans Finset.map_refl
  iapply (Transfers.wp_dmaLocal countersEmb 𝒱₀ (thr d L) none (src := (bV).slice (halfRect o ho) (fun _ => rfl))
    (dst := (oV).slice (outRect off hoff) (fun _ => rfl)) (sm := .dma sm) (q := fullShare.right) (fs := f) (Sd := span (b + o) 32) (fd := y)
    (default : HIx 1) credit rfl (View.dmaCredit_pos _ h_S32x1000) hD.subset) $$ [Hr Ho Hv]
  · isplitl [Hr]; · rw [hS]; iexact Hr
    isplitl [Ho]; · iexact Ho
    iexact Hv
  iintro Hfl
  iapply Hk
  isplitl [Hl]; · iexact Hl
  iapply (Transfers.Flight_mono countersEmb (thr d L) ?_) $$ Hfl
  rw [hS]
  iintro ⟨Ho, Hb⟩
  isplitl [Ho]
  · iapply (pts_congr (ℓ := oLoc d L) (I := span (b + o) 32) ?_) $$ Ho
    intro j hj
    rw [← h0, ← set_outRect hoff h1] at hj
    obtain ⟨x, rfl⟩ := LoadRect.exists_idx_of_mem _ hj
    refine (View.write_emb_of_mem (v := ((oV).slice (outRect off hoff) (fun _ => rfl)).view) (Val := Elt F) y _ (Finset.mem_univ x)).trans ?_
    show f ((halfRect o ho).idx x) = res W ((outRect off hoff).idx x)
    have e0 : ((halfRect o ho).idx x 0).val = o + (x 0).val := Rect.idx_unit_val (s := S64x1000) ![o, 0] S32x1000.size ho x 0
    have e1 : ((halfRect o ho).idx x 1).val = 0 + (x 1).val := Rect.idx_unit_val (s := S64x1000) ![o, 0] S32x1000.size ho x 1
    have u0 : ((outRect off hoff).idx x 0).val = off 0 + (x 0).val := Rect.idx_unit_val _ _ _ x 0
    have u1 : ((outRect off hoff).idx x 1).val = off 1 + (x 1).val := Rect.idx_unit_val _ _ _ x 1
    have hx : (x 0).val < 32 := (x 0).isLt
    rw [hf _ (mem_band.mpr (by omega))]
    unfold hot res
    rw [e0, e1, u0, u1, h0, h1, Nat.add_assoc]
  · iapply (pts_congr (ℓ := bLoc d L) (I := band o) hf) $$ Hb

/-- The wait for the copy. -/
theorem run_await {o : Nat} (ho : ∀ a, (![o, 0] : Fin 2 → Nat) a + S32x1000.size a ≤ S64x1000.size a) (sm : DmaSem sig) (k : PUnit → TProg F L α)
    {D : HP F} {O : CellTallies nD τ sig (HIx 1)} {Ws : Waits sig (HIx 1)} :
    iprop(Transfers.Flight countersEmb (thr d L) (.dma sm) (default : HIx 1) credit D ∗ owes (thr d L) O Ws ∗ Transfers.MayWaits (thr d L) (default : HIx 1) O
        ∗ ((D ∗ semVal (thr d L, .dma sm) 0 ∗ owes (thr d L) O (insert (SemLoc.dma sm, (default : HIx 1)) Ws)) -∗ run d L (k ⟨⟩) Q))
      ⊢ run d L (await o ho sm k) Q := by
  unfold await
  iintro ⟨Hfl, HO, Hmw, Hk⟩
  iapply (Transfers.wp_waitLocalO countersEmb 𝒱₀ (thr d L) none (default : HIx 1)
    (dstw := (oV).slice (outRect ![0, 0] inb_S106496x1000_S32x1000_0_0) (fun _ => rfl)) (N := credit) rfl) $$ [Hfl HO Hmw]
  · isplitl [Hfl]; · iexact Hfl
    isplitl [HO]; · iexact HO
    iapply (Transfers.MayWaits.elim (SemLoc.dma sm)) $$ Hmw
  iexact Hk

/-- What the buffer holds before a trip: the last trip's rows if there was one, zeros otherwise. -/
def before (W : Nat → Nat) (P : Prop) [Decidable P] (b' : Nat) (j : S64x1000.Idx) : F .f32 := if P then hot W b' j else zero

/-- A half before a trip: its last copy in flight, or at rest when there is none. -/
def Slot (d : Dev nD) (L : grid0.Coords) (sm : DmaSem sig) (W : Nat → Nat) (P : Prop) [Decidable P] (b' o : Nat) : HP F :=
  if P then Flying d L sm W b' o
  else iprop((bLoc d L ↦[band o]{fullShare.right} ((fun _ => zero : S64x1000.Idx → F .f32) : Buf (Elt F) (bLoc d L))) ∗ semVal (thr d L, .dma sm) 0)

/-- What the last copy leaves done of the result, if there was one. -/
def Done (d : Dev nD) (L : grid0.Coords) (W : Nat → Nat) (P : Prop) [Decidable P] (b' o : Nat) : HP F :=
  if P then iprop(oLoc d L ↦[span (b' + o) 32]{fullShare} (res W : Buf (Elt F) (oLoc d L))) else iprop(emp)

/-- The buffer whole at the left share, rows below `a` filled, below `z` zero. -/
abbrev Rowed (d : Dev nD) (L : grid0.Coords) (W : Nat → Nat) (b : Nat) (prev : S64x1000.Idx → F .f32) (a z : Nat) : HP F :=
  iprop(∃ f : S64x1000.Idx → F .f32, ⌜Filled W b prev a z f⌝ ∗ (bLoc d L ↦{fullShare.left} (f : Buf (Elt F) (bLoc d L))))

/-- The kept class numbers. -/
abbrev Keeping (d : Dev nD) (L : grid0.Coords) (W : Nat → Nat) (b : Nat) (P : Prop) (b' a : Nat) : HP F :=
  iprop(∃ g : S64.Idx → BitVec 32, ⌜Kept W b P b' a g⌝ ∗ (cLoc d L ↦{fullShare} (g : Buf (Elt F) (cLoc d L))))

/-- What the tile owes, whatever it has waited for. -/
abbrev Owing (d : Dev nD) (L : grid0.Coords) (O : CellTallies nD τ sig (HIx 1)) : HP F := iprop(∃ Ws, owes (thr d L) O Ws)

/-- The filling of a cleared half and its copy out. -/
theorem run_fill {o : Nat} (ho : ∀ a, (![o, 0] : Fin 2 → Nat) a + S32x1000.size a ≤ S64x1000.size a) (sm : DmaSem sig) (ho' : o + 32 ≤ 64)
    (hn₁ : ∀ a, (![o] : Fin 1 → Nat) a + S16.size a ≤ S64.size a) (hn₂ : ∀ a, (![o + 16] : Fin 1 → Nat) a + S16.size a ≤ S64.size a)
    (P₁ P₂ : IVec S16 32 → Prop) (dP₁ : ∀ v, Decidable (P₁ v)) (dP₂ : ∀ v, Decidable (P₂ v))
    (hP₁ : ∀ v, P₁ v → Inside o v) (hP₂ : ∀ v, P₂ v → Inside (o + 16) v) (hP₁' : ∀ v, Inside o v → P₁ v) (hP₂' : ∀ v, Inside (o + 16) v → P₂ v)
    (x₁ x₂ : Fin 1 → Nat) (hx₁ : ∀ a, x₁ a + S16.size a ≤ S3328.size a) (hx₂ : ∀ a, x₂ a + S16.size a ≤ S3328.size a)
    (off : Fin 2 → Nat) (hoff : ∀ a, off a + S32x1000.size a ≤ S106496x1000.size a) (k : PUnit → TProg F L α)
    {W : Nat → Nat} (hW : ∀ r, W r < 1000) {b b' B : Nat} {P : Prop} {prev : S64x1000.Idx → F .f32}
    {f : S64x1000.Idx → F .f32} (hf : Filled W b prev o (o + 32) f)
    {x : S3328.Idx → BitVec 32} (hx : ∀ i, (x i).toNat = W (B + (i 0).val)) (hB₁ : B + x₁ 0 = b + o) (hB₂ : B + x₂ 0 = b + (o + 16))
    (h0 : off 0 = b + o) (h1 : off 1 = 0) (y : S106496x1000.Idx → F .f32) :
    iprop(Hold d L o f ∗ semVal (thr d L, .dma sm) 0 ∗ Keeping d L W b P b' o ∗ (xLoc d L ↦{fullShare} (x : Buf (Elt F) (xLoc d L)))
        ∗ (oLoc d L ↦[span (b + o) 32]{fullShare} (y : Buf (Elt F) (oLoc d L)))
        ∗ ((Rowed d L W b prev (o + 32) (o + 32) ∗ Flying d L sm W b o ∗ Keeping d L W b P b' (o + 32) ∗ (xLoc d L ↦{fullShare} (x : Buf (Elt F) (xLoc d L))))
          -∗ run d L (k ⟨⟩) Q))
      ⊢ run d L (put (halfRect o ho) (half_stores o ho) o hn₁ x₁ hx₁ P₁ dP₁ hP₁ fun _ =>
          put (halfRect o ho) (half_stores o ho) (o + 16) hn₂ x₂ hx₂ P₂ dP₂ hP₂ fun _ => send o ho sm off hoff k) Q := by
  iintro ⟨H, Hv, ⟨%g, %hg, Hc⟩, Hx, Ho, Hk⟩
  iapply (run_put ho ⟨le_rfl, by omega⟩ (by omega) hn₁ x₁ hx₁ P₁ dP₁ hP₁ hP₁' _ hW (show o + 16 ≤ o + 32 by omega) hf hg hx hB₁) $$ [H Hv Hc Hx Ho Hk]
  isplitl [H]; · iexact H
  isplitl [Hc]; · iexact Hc
  isplitl [Hx]; · iexact Hx
  iintro ⟨⟨%f₁, %hf₁, H⟩, ⟨%g₁, %hg₁, Hc⟩, Hx⟩
  iapply (run_put ho ⟨by omega, by omega⟩ (by omega) hn₂ x₂ hx₂ P₂ dP₂ hP₂ hP₂' _ hW (show o + 16 + 16 ≤ o + 32 by omega) hf₁ hg₁ hx hB₂) $$ [H Hv Hc Hx Ho Hk]
  isplitl [H]; · iexact H
  isplitl [Hc]; · iexact Hc
  isplitl [Hx]; · iexact Hx
  iintro ⟨⟨%f₂, %hf₂, H⟩, ⟨%g₂, %hg₂, Hc⟩, Hx⟩
  iapply (run_send ho sm off hoff k h0 h1 (f := f₂) (W := W) (fun j hj => ?_) y) $$ [H Hv Hc Hx Ho Hk]
  · rw [mem_band] at hj
    rw [hf₂ j, if_pos (by omega)]
  isplitl [H]; · iexact H
  isplitl [Ho]; · iexact Ho
  isplitl [Hv]; · iexact Hv
  iintro ⟨Hl, Hfl⟩
  iapply Hk
  isplitl [Hl]
  · iexists f₂
    isplitr; · ipureintro; exact hf₂
    iexact Hl
  isplitl [Hfl]; · iexact Hfl
  isplitl [Hc]
  · iexists g₂
    isplitr; · ipureintro; exact hg₂
    iexact Hc
  · iexact Hx

/-- A half's part of a trip. -/
theorem run_half {o : Nat} (ho : ∀ a, (![o, 0] : Fin 2 → Nat) a + S32x1000.size a ≤ S64x1000.size a) (sm : DmaSem sig) (cnd : Prop) [icnd : Decidable cnd]
    {P : Prop} [iP : Decidable P] (hcP : cnd ↔ P) (ho' : o + 32 ≤ 64)
    (hn₁ : ∀ a, (![o] : Fin 1 → Nat) a + S16.size a ≤ S64.size a) (hn₂ : ∀ a, (![o + 16] : Fin 1 → Nat) a + S16.size a ≤ S64.size a)
    (C₁ C₂ P₁ P₂ : IVec S16 32 → Prop) (dC₁ : ∀ v, Decidable (C₁ v)) (dC₂ : ∀ v, Decidable (C₂ v)) (dP₁ : ∀ v, Decidable (P₁ v)) (dP₂ : ∀ v, Decidable (P₂ v))
    (hC₁ : cnd → ∀ v, C₁ v → Inside o v) (hC₂ : cnd → ∀ v, C₂ v → Inside (o + 16) v) (hP₁ : ∀ v, P₁ v → Inside o v) (hP₂ : ∀ v, P₂ v → Inside (o + 16) v)
    (hC₁' : ∀ v, Inside o v → C₁ v) (hC₂' : ∀ v, Inside (o + 16) v → C₂ v) (hP₁' : ∀ v, Inside o v → P₁ v) (hP₂' : ∀ v, Inside (o + 16) v → P₂ v)
    (x₁ x₂ : Fin 1 → Nat) (hx₁ : ∀ a, x₁ a + S16.size a ≤ S3328.size a) (hx₂ : ∀ a, x₂ a + S16.size a ≤ S3328.size a)
    (off : Fin 2 → Nat) (hoff : ∀ a, off a + S32x1000.size a ≤ S106496x1000.size a) (k : PUnit → TProg F L α)
    {W : Nat → Nat} (hW : ∀ r, W r < 1000) {b b' B : Nat}
    {x : S3328.Idx → BitVec 32} (hx : ∀ i, (x i).toNat = W (B + (i 0).val)) (hB₁ : B + x₁ 0 = b + o) (hB₂ : B + x₂ 0 = b + (o + 16))
    (h0 : off 0 = b + o) (h1 : off 1 = 0) (y : S106496x1000.Idx → F .f32) {O : CellTallies nD τ sig (HIx 1)} :
    iprop(Rowed d L W b (before W P b') o o ∗ Slot d L sm W P b' o ∗ Keeping d L W b P b' o ∗ (xLoc d L ↦{fullShare} (x : Buf (Elt F) (xLoc d L)))
        ∗ (oLoc d L ↦[span (b + o) 32]{fullShare} (y : Buf (Elt F) (oLoc d L))) ∗ Owing d L O ∗ Transfers.MayWaits (thr d L) (default : HIx 1) O
        ∗ ((Rowed d L W b (before W P b') (o + 32) (o + 32) ∗ Flying d L sm W b o ∗ Keeping d L W b P b' (o + 32)
              ∗ (xLoc d L ↦{fullShare} (x : Buf (Elt F) (xLoc d L))) ∗ Done d L W P b' o ∗ Owing d L O)
          -∗ run d L (k ⟨⟩) Q))
      ⊢ run d L (half o ho sm cnd o (o + 16) hn₁ hn₂ C₁ C₂ P₁ P₂ dC₁ dC₂ dP₁ dP₂ hC₁ hC₂ hP₁ hP₂ x₁ x₂ hx₁ hx₂ off hoff k) Q := by
  have e := propext hcP
  subst e
  obtain rfl := Subsingleton.elim icnd iP
  unfold half Slot Done
  by_cases h : cnd
  · have hbef : (before W cnd b' : S64x1000.Idx → F .f32) = hot W b' := funext fun j => if_pos h
    simp only [dif_pos h, if_pos h, hbef]
    iintro ⟨⟨%f, %hf, Hl⟩, Hfl, ⟨%g, %hg, Hc⟩, Hx, Ho, ⟨%Ws, HO⟩, Hmw, Hk⟩
    iapply (run_await ho sm _) $$ [Hl Hfl Hc Hx Ho HO Hmw Hk]
    isplitl [Hfl]; · iexact Hfl
    isplitl [HO]; · iexact HO
    isplitl [Hmw]; · iexact Hmw
    iintro ⟨⟨Hd, Hr⟩, Hv, HO⟩
    ihave Hr := (pts_congr (ℓ := bLoc d L) (I := band o) (g := f) (fun j hj => by
      rw [mem_band] at hj; rw [hf j, if_neg (by omega), if_neg (by omega)])) $$ Hr
    have hg' : Kept W b True b' o g := fun i => ⟨(hg i).1, fun _ => (hg i).2 h⟩
    iapply (run_clear ho ⟨le_rfl, by omega⟩ (by omega) hn₁ C₁ dC₁ (hC₁ h) hC₁' _ hW le_rfl hf hg') $$ [Hl Hr Hv Hc Hx Ho HO Hd Hk]
    isplitl [Hl Hr]
    · unfold Hold
      isplitl [Hl] <;> iassumption
    isplitl [Hc]; · iexact Hc
    iintro ⟨⟨%f₁, %hf₁, H⟩, Hc⟩
    iapply (run_clear ho ⟨by omega, by omega⟩ (by omega) hn₂ C₂ dC₂ (hC₂ h) hC₂' _ hW (show o ≤ o + 16 by omega) hf₁ hg') $$ [H Hv Hc Hx Ho HO Hd Hk]
    isplitl [H]; · iexact H
    isplitl [Hc]; · iexact Hc
    iintro ⟨⟨%f₂, %hf₂, H⟩, Hc⟩
    iapply (run_fill ho sm ho' hn₁ hn₂ P₁ P₂ dP₁ dP₂ hP₁ hP₂ hP₁' hP₂' x₁ x₂ hx₁ hx₂ off hoff k hW hf₂ hx hB₁ hB₂ h0 h1 y (P := cnd) (b' := b')) $$ [H Hv Hc Hx Ho HO Hd Hk]
    isplitl [H]; · iexact H
    isplitl [Hv]; · iexact Hv
    isplitl [Hc]
    · iexists g
      isplitr; · ipureintro; exact hg
      iexact Hc
    isplitl [Hx]; · iexact Hx
    isplitl [Ho]; · iexact Ho
    iintro ⟨Hl, Hfl, Hc, Hx⟩
    iapply Hk
    isplitl [Hl]; · iexact Hl
    isplitl [Hfl]; · iexact Hfl
    isplitl [Hc]; · iexact Hc
    isplitl [Hx]; · iexact Hx
    isplitl [Hd]; · iexact Hd
    iexists _
    iexact HO
  · have hbef : (before W cnd b' : S64x1000.Idx → F .f32) = fun _ => zero := funext fun j => if_neg h
    simp only [dif_neg h, if_neg h, hbef]
    iintro ⟨⟨%f, %hf, Hl⟩, ⟨Hr, Hv⟩, Hc, Hx, Ho, HO, Hmw, Hk⟩
    ihave Hr := (pts_congr (ℓ := bLoc d L) (I := band o) (g := f) (fun j hj => by
      rw [mem_band] at hj; rw [hf j, if_neg (by omega), if_neg (by omega)])) $$ Hr
    iapply (run_fill ho sm ho' hn₁ hn₂ P₁ P₂ dP₁ dP₂ hP₁ hP₂ hP₁' hP₂' x₁ x₂ hx₁ hx₂ off hoff k hW (hf.first (show o ≤ o + 32 by omega)) hx hB₁ hB₂ h0 h1 y (P := cnd) (b' := b')) $$ [Hl Hr Hv Hc Hx Ho HO Hk]
    isplitl [Hl Hr]
    · unfold Hold
      isplitl [Hl] <;> iassumption
    isplitl [Hv]; · iexact Hv
    isplitl [Hc]; · iexact Hc
    isplitl [Hx]; · iexact Hx
    isplitl [Ho]; · iexact Ho
    iintro ⟨Hl, Hfl, Hc, Hx⟩
    iapply Hk
    isplitl [Hl]; · iexact Hl
    isplitl [Hfl]; · iexact Hfl
    isplitl [Hc]; · iexact Hc
    isplitl [Hx]; · iexact Hx
    isplitr [HO]; · iempintro
    iexact HO

end Cert.Send

end
-- ==== Proof.Trips.lean ====
/-
  The main loop: each trip fills both halves of the buffer for the next sixty-four rows and sends them out, while the result's rows
  of the last trip land.
-/
module

public import proofs.«01_k».proof.Proof.Send

@[expose] public section

noncomputable section

namespace Cert.Trips
open Cert.KernelIdeal Cert.KernelIdeal.Gen Cert.Companion Cert.Setup Cert.Lanes Cert.Rows Cert.Twin Cert.Half Cert.Send
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] {d : Dev nD} {L : grid0.Coords}

/-- The tile's first row of the result. -/
def base (L : grid0.Coords) : Nat := 6656 * (L 1).val + 3328 * (L 0).val

theorem base_le (L : grid0.Coords) : base L + 3328 ≤ 106496 := by
  have h0 : (L 0).val < 2 := (L 0).isLt
  have h1 : (L 1).val < 16 := (L 1).isLt
  unfold base
  omega

theorem cond1_iff : ∀ t : Fin k0_t2_loop.trips, k0_cond1 t = 1#1 ↔ 0 < t.val := by decide +kernel
theorem cond2_iff : ∀ t : Fin k0_t2_loop.trips, k0_cond2 t = 1#1 ↔ 0 < t.val := by decide +kernel

/-- Two spans of rows side by side are one. -/
theorem pts_span (f : S106496x1000.Idx → F .f32) {a n m k : Nat} (hm : k = n + m) {a' : Nat} (ha : a' = a + n) :
    (oLoc d L ↦[span a k]{fullShare} (f : Buf (Elt F) (oLoc d L)) : HP F)
      = iprop((oLoc d L ↦[span a n]{fullShare} (f : Buf (Elt F) (oLoc d L))) ∗ (oLoc d L ↦[span a' m]{fullShare} (f : Buf (Elt F) (oLoc d L)))) := by
  subst hm ha
  have hd : Disjoint (span a n) (span (a + n) m) := Finset.disjoint_left.mpr fun j h h' => by
    rw [mem_span] at h h'; omega
  rw [show span a (n + m) = span a n ∪ span (a + n) m by ext j; rw [Finset.mem_union, mem_span, mem_span, mem_span]; omega]
  exact Entails.antisymm (pointsTo_union hd).1 (pointsTo_union hd).2

/-- No rows are nothing. -/
theorem pts_span_zero (f : S106496x1000.Idx → F .f32) (a : Nat) : (oLoc d L ↦[span a 0]{fullShare} (f : Buf (Elt F) (oLoc d L)) : HP F) = iprop(emp) := by
  rw [show span a 0 = ∅ by ext j; rw [mem_span]; simp]
  exact pointsTo_empty ..

/-- The rows that land in trip `k` continue those done. -/
theorem done_join (W : Nat → Nat) (B k : Nat) :
    iprop((oLoc d L ↦[span B (64 * (k - 1))]{fullShare} (res W : Buf (Elt F) (oLoc d L)))
        ∗ Done d L W (0 < k) (B + 64 * (k - 1)) 0 ∗ Done d L W (0 < k) (B + 64 * (k - 1)) 32)
      ⊢ (oLoc d L ↦[span B (64 * (k + 1 - 1))]{fullShare} (res W : Buf (Elt F) (oLoc d L)) : HP F) := by
  unfold Done
  by_cases h : 0 < k
  · simp only [if_pos h]
    rw [pts_span (d := d) (L := L) (res W) (a := B) (k := 64 * (k + 1 - 1)) (n := 64 * (k - 1)) (m := 64) (a' := B + 64 * (k - 1)) (by omega) rfl,
      pts_span (d := d) (L := L) (res W) (a := B + 64 * (k - 1)) (k := 64) (n := 32) (m := 32) (a' := B + 64 * (k - 1) + 32) rfl rfl]
    exact .rfl
  · obtain rfl : k = 0 := by omega
    simp only [if_neg h]
    iintro ⟨H, -, -⟩
    iexact H

/-- Before trip `k`: the buffer as the last trip left it, each half's copy in flight, the rows of the earlier trips done, those
    of the later ones as they were. -/
def Inv (d : Dev nD) (L : grid0.Coords) (W : Nat → Nat) (x : S3328.Idx → BitVec 32) (y : S106496x1000.Idx → F .f32) (O : CellTallies nD τ sig (HIx 1)) (k : Nat) : HP F :=
  iprop(Rowed d L W (base L + 64 * k) (before W (0 < k) (base L + 64 * (k - 1))) 0 0
    ∗ Slot d L cc0_scratch3.sem W (0 < k) (base L + 64 * (k - 1)) 0 ∗ Slot d L cc0_scratch4.sem W (0 < k) (base L + 64 * (k - 1)) 32
    ∗ Keeping d L W (base L + 64 * k) (0 < k) (base L + 64 * (k - 1)) 0
    ∗ (xLoc d L ↦{fullShare} (x : Buf (Elt F) (xLoc d L)))
    ∗ (oLoc d L ↦[span (base L) (64 * (k - 1))]{fullShare} (res W : Buf (Elt F) (oLoc d L)))
    ∗ (oLoc d L ↦[span (base L + 64 * k) (3328 - 64 * k)]{fullShare} (y : Buf (Elt F) (oLoc d L)))
    ∗ Owing d L O)

/-- A trip. -/
theorem run_trip {W : Nat → Nat} (hW : ∀ r, W r < 1000) {x : S3328.Idx → BitVec 32} (hx : ∀ i, (x i).toNat = W (base L + (i 0).val))
    (y : S106496x1000.Idx → F .f32) (O : CellTallies nD τ sig (HIx 1)) (t : Fin k0_t2_loop.trips) (u : Unit) :
    iprop(Transfers.MayWaits (thr d L) (default : HIx 1) O ∗ Inv d L W x y O t.val)
      ⊢ run d L (trip (F := F) (L := L) t u) fun _ => iprop(Transfers.MayWaits (thr d L) (default : HIx 1) O ∗ Inv d L W x y O (t.val + 1)) := by
  have ht : t.val < 52 := t.isLt
  have hb := base_le L
  have h66 := k0_off66_eq L t
  have h69 := k0_off69_eq L t
  have e66 : k0_off66 L t 0 = base L + 64 * t.val + 0 := by rw [h66]; rfl
  have e69 : k0_off69 L t 0 = base L + 64 * t.val + 32 := by rw [h69]; unfold base; show _ + _ + _ = _; omega
  unfold Inv trip
  iintro ⟨#Hmw, Hb, Hs₁, Hs₂, Hc, Hx, Hdone, Hy, HO⟩
  ihave Hy := (Entails.of_eq (pts_span (d := d) (L := L) y (n := 32) (m := 3328 - 64 * t.val - 32) (by omega) rfl)) $$ Hy
  icases Hy with ⟨Hy₁, Hy⟩
  ihave Hy := (Entails.of_eq (pts_span (d := d) (L := L) y (n := 32) (m := 3328 - 64 * (t.val + 1)) (by omega) rfl)) $$ Hy
  icases Hy with ⟨Hy₂, Hy⟩
  iapply (run_half lo cc0_scratch3.sem (k0_cond1 t = 1#1) (P := 0 < t.val) (cond1_iff t) (by decide) inb_S64_S16_0 inb_S64_S16_16
    (k0_chk2 t (lanesFrom 0)) (k0_chk3 t (lanesFrom 16)) (k0_chk4 (lanesFrom 0)) (k0_chk5 (lanesFrom 16))
    (k0_chk2.dec t (lanesFrom 0)) (k0_chk3.dec t (lanesFrom 16)) (k0_chk4.dec (lanesFrom 0)) (k0_chk5.dec (lanesFrom 16))
    (fun h1 _ h => h h1) (fun h1 _ h => h h1) (fun _ h => h) (fun _ h => h) (fun _ h _ => h) (fun _ h _ => h) (fun _ h => h) (fun _ h => h)
    (k0_off64 t) (k0_off65 t) (k0_off64_inb t) (k0_off65_inb t) (k0_off66 L t) (k0_off66_inb L t) _ hW (b := base L + 64 * t.val) (b' := base L + 64 * (t.val - 1)) (B := base L) hx
    (by rw [k0_off64_eq]; rfl) (by rw [k0_off65_eq]; rfl) e66 (by rw [h66]; rfl) y (O := O)) $$ [Hb Hs₁ Hs₂ Hc Hx Hdone Hy₁ Hy₂ Hy HO]
  isplitl [Hb]; · iexact Hb
  isplitl [Hs₁]; · iexact Hs₁
  isplitl [Hc]; · iexact Hc
  isplitl [Hx]; · iexact Hx
  isplitl [Hy₁]; · iexact Hy₁
  isplitl [HO]; · iexact HO
  isplitr; · iexact Hmw
  iintro ⟨Hb, Hf₁, Hc, Hx, Hd₁, HO⟩
  iapply (run_half hi cc0_scratch4.sem (k0_cond2 t = 1#1) (P := 0 < t.val) (cond2_iff t) (by decide) inb_S64_S16_32 inb_S64_S16_48
    (k0_chk6 t (lanesFrom 32)) (k0_chk7 t (lanesFrom 48)) (k0_chk8 (lanesFrom 32)) (k0_chk9 (lanesFrom 48))
    (k0_chk6.dec t (lanesFrom 32)) (k0_chk7.dec t (lanesFrom 48)) (k0_chk8.dec (lanesFrom 32)) (k0_chk9.dec (lanesFrom 48))
    (fun h1 _ h => h h1) (fun h1 _ h => h h1) (fun _ h => h) (fun _ h => h) (fun _ h _ => h) (fun _ h _ => h) (fun _ h => h) (fun _ h => h)
    (k0_off67 t) (k0_off68 t) (k0_off67_inb t) (k0_off68_inb t) (k0_off69 L t) (k0_off69_inb L t) _ hW (b := base L + 64 * t.val) (b' := base L + 64 * (t.val - 1)) (B := base L) hx
    (by rw [k0_off67_eq]; rfl) (by rw [k0_off68_eq]; rfl) e69 (by rw [h69]; rfl) y (O := O)) $$ [Hb Hf₁ Hs₂ Hc Hx Hdone Hd₁ Hy₂ Hy HO]
  isplitl [Hb]; · iexact Hb
  isplitl [Hs₂]; · iexact Hs₂
  isplitl [Hc]; · iexact Hc
  isplitl [Hx]; · iexact Hx
  isplitl [Hy₂]; · iexact Hy₂
  isplitl [HO]; · iexact HO
  isplitr; · iexact Hmw
  iintro ⟨⟨%f, %hf, Hb⟩, Hf₂, ⟨%g, %hg, Hc⟩, Hx, Hd₂, HO⟩
  iapply (run_ret d L (() : Unit))
  isplitr; · iexact Hmw
  isplitl [Hb]
  · iexists f
    isplitr; · ipureintro; rw [show (before W (0 < t.val + 1) (base L + 64 * (t.val + 1 - 1)) : S64x1000.Idx → F .f32) = hot W (base L + 64 * t.val) from funext fun j => if_pos (Nat.succ_pos _)]; exact hf.next
    iexact Hb
  isplitl [Hf₁]
  · unfold Slot; rw [if_pos (Nat.succ_pos _)]; iexact Hf₁
  isplitl [Hf₂]
  · unfold Slot; rw [if_pos (Nat.succ_pos _)]; iexact Hf₂
  isplitl [Hc]
  · iexists g
    isplitr; · ipureintro; exact hg.next
    iexact Hc
  isplitl [Hx]; · iexact Hx
  isplitl [Hdone Hd₁ Hd₂]
  · iapply (done_join (d := d) (L := L) W (base L) t.val) $$ [Hdone Hd₁ Hd₂]
    isplitl [Hdone]; · iexact Hdone
    isplitl [Hd₁] <;> iassumption
  isplitl [Hy]
  · iapply (Entails.of_eq (show (oLoc d L ↦[span (base L + 64 * t.val + 32 + 32) (3328 - 64 * (t.val + 1))]{fullShare} (y : Buf (Elt F) (oLoc d L)) : HP F) = _ by
      rw [show base L + 64 * t.val + 32 + 32 = base L + 64 * (t.val + 1) by omega])) $$ Hy
  · iexact HO

end Cert.Trips

end
-- ==== Proof.Tile.lean ====
/-
  A tile's whole run: its class numbers fetched, the buffer made zero, the trips, the last two waits.
-/
module

public import proofs.«01_k».proof.Proof.Wipe
public import proofs.«01_k».proof.Proof.Trips

@[expose] public section

noncomputable section

namespace Cert.Tile
open Cert.KernelIdeal Cert.KernelIdeal.Gen Cert.Companion Cert.Setup Cert.Lanes Cert.Rows Cert.Twin Cert.Half Cert.Send Cert.Wipe Cert.Trips
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] {d : Dev nD} {L : grid0.Coords} {α : Type} {Q : α → HP F}

/-- Words `a … a + n - 1` of the flat class numbers. -/
def words (a n : Nat) : Finset S106496.Idx := Finset.univ.filter fun j => a ≤ (j 0).val ∧ (j 0).val < a + n

theorem mem_words' {a n : Nat} {j : S106496.Idx} : j ∈ words a n ↔ a ≤ (j 0).val ∧ (j 0).val < a + n := by simp [words]

/-- An index of the flat class numbers. -/
def at' (r : Nat) (h : r < 106496) : S106496.Idx := fun a => ⟨r, by fin_cases a; exact h⟩

theorem at_self (i : S106496.Idx) (h : (i 0).val < 106496) : at' (i 0).val h = i := by
  funext a; fin_cases a; rfl

/-- The class of a row of the result, as a number. -/
def cls (X : S106496.Idx → BitVec 32) (r : Nat) : Nat := if h : r < 106496 then (X (at' r h)).toNat else 0

theorem cls_at (X : S106496.Idx → BitVec 32) (i : S106496.Idx) : cls X (i 0).val = (X i).toNat := by
  have h : (i 0).val < 106496 := (i 0).isLt
  unfold cls
  rw [dif_pos h, at_self i h]

theorem cls_lt {X : S106496.Idx → BitVec 32} (hX : ∀ i, (X i).toNat < 1000) (r : Nat) : cls X r < 1000 := by
  unfold cls
  split_ifs
  · exact hX _
  · decide

abbrev inRect (L : grid0.Coords) : Rect S106496 := Rect.unit (s := S106496) (k0_off1 L) S3328.size (k0_off1_inb L)

theorem off1_base (L : grid0.Coords) : k0_off1 L 0 = base L := by rw [k0_off1_eq]; rfl

theorem set_inRect : (inRect L).set = words (base L) 3328 := by
  ext j
  rw [mem_words', Rect.mem_set_unit, ← off1_base]
  exact ⟨fun h => h 0, fun h a => by fin_cases a; exact h⟩

/-- The fetch: the tile's class numbers are then the tile's own words of the argument. -/
theorem run_fetch (k : PUnit → TProg F L α) (X : S106496.Idx → BitVec 32) (x : S3328.Idx → BitVec 32) {O : CellTallies nD τ sig (HIx 1)} :
    iprop((iLoc d L ↦[words (base L) 3328]{fullShare} (X : Buf (Elt F) (iLoc d L))) ∗ (xLoc d L ↦{fullShare} (x : Buf (Elt F) (xLoc d L)))
        ∗ semVal (thr d L, .dma cc0_scoped0.sem) 0 ∗ Owing d L O ∗ Transfers.MayWaits (thr d L) (default : HIx 1) O
        ∗ (((iLoc d L ↦[words (base L) 3328]{fullShare} (X : Buf (Elt F) (iLoc d L)))
            ∗ (∃ x' : S3328.Idx → BitVec 32, ⌜∀ i, (x' i).toNat = cls X (base L + (i 0).val)⌝ ∗ (xLoc d L ↦{fullShare} (x' : Buf (Elt F) (xLoc d L))))
            ∗ semVal (thr d L, .dma cc0_scoped0.sem) 0 ∗ Owing d L O) -∗ run d L (k ⟨⟩) Q))
      ⊢ run d L (fetch k) Q := by
  unfold fetch
  iintro ⟨HI, Hx, Hv, ⟨%Ws, HO⟩, Hmw, Hk⟩
  have hS : ((iV).slice (inRect L) (fun _ => rfl)).view.set = words (base L) 3328 := by
    rw [← set_inRect]
    exact (View.set_slice _ _).trans Finset.map_refl
  iapply (Transfers.wp_dmaLocal countersEmb 𝒱₀ (thr d L) none (src := (iV).slice (inRect L) (fun _ => rfl))
    (dst := xV) (sm := .dma cc0_scoped0.sem) (q := fullShare) (fs := X) (Sd := Finset.univ) (fd := x)
    (default : HIx 1) ((xV).view.dmaCredit) rfl (View.dmaCredit_pos _ (by decide)) (Finset.subset_univ _)) $$ [HI Hx Hv]
  · isplitl [HI]; · rw [hS]; iexact HI
    isplitl [Hx]; · iexact Hx
    iexact Hv
  iintro Hfl
  iapply (Transfers.wp_waitLocalO countersEmb 𝒱₀ (thr d L) none (default : HIx 1) (dstw := xV) (N := (xV).view.dmaCredit) rfl) $$ [Hfl HO Hmw]
  · isplitl [Hfl]; · iexact Hfl
    isplitl [HO]; · iexact HO
    iapply (Transfers.MayWaits.elim (SemLoc.dma cc0_scoped0.sem)) $$ Hmw
  iintro ⟨⟨Hx, HI⟩, Hv, HO⟩
  iapply Hk
  isplitl [HI]; · rw [hS]; iexact HI
  isplitl [Hx]
  · iexists _
    isplitr [Hx]; rotate_left 1; · iexact Hx
    ipureintro
    intro i
    have e : ((xV).view.write (Elt F) x (ReadAs.apply (.same) (((iV).slice (inRect L) (fun _ => rfl)).view.read (Elt F) X)) Finset.univ : S3328.Idx → BitVec 32) i = X ((inRect L).idx i) :=
      View.write_emb_of_mem (v := (xV).view) (Val := Elt F) x _ (Finset.mem_univ i)
    refine (congrArg BitVec.toNat e).trans ?_
    rw [← cls_at, show ((inRect L).idx i 0).val = k0_off1 L 0 + (i 0).val from Rect.idx_unit_val (s := S106496) (k0_off1 L) S3328.size (k0_off1_inb L) i 0, off1_base]
  isplitl [Hv]; · iexact Hv
  iexists _
  iexact HO

theorem rest_band : (Finset.univ : Finset S64x1000.Idx) \ band 0 = band 32 := by
  ext j
  have h : (j 0).val < 64 := (j 0).isLt
  rw [Finset.mem_sdiff, mem_band, mem_band]
  simp only [Finset.mem_univ, true_and]
  omega

/-- The buffer outright is the whole at the left share and its two halves at the right one. -/
theorem pts_halves (f : S64x1000.Idx → F .f32) :
    (bLoc d L ↦{fullShare} (f : Buf (Elt F) (bLoc d L)) : HP F)
      ⊣⊢ iprop((bLoc d L ↦{fullShare.left} (f : Buf (Elt F) (bLoc d L))) ∗ (bLoc d L ↦[band 0]{fullShare.right} (f : Buf (Elt F) (bLoc d L)))
        ∗ (bLoc d L ↦[band 32]{fullShare.right} (f : Buf (Elt F) (bLoc d L)))) := by
  have hs := pointsTo_split_subset (Ix := HIx 1) (Val := Elt F) (Name := ℕ) (U := UU) (Lvl := ℕ) (ℓ := bLoc d L) (q := fullShare.right) (f := (f : Buf (Elt F) (bLoc d L))) (Finset.subset_univ (band 0))
  rw [rest_band] at hs
  constructor
  · iintro H
    ihave H := (pointsTo_share (PosShare.mem_left_op_right fullShare)).1 $$ H
    icases H with ⟨Hl, Hr⟩
    isplitl [Hl]; · iexact Hl
    iapply hs.1 $$ Hr
  · iintro ⟨Hl, Hr⟩
    iapply (pointsTo_share (PosShare.mem_left_op_right fullShare)).2
    isplitl [Hl]; · iexact Hl
    iapply hs.2 $$ Hr

/-- The trips, from a zero buffer to the last two copies. -/
theorem run_trips {W : Nat → Nat} (hW : ∀ r, W r < 1000) {x : S3328.Idx → BitVec 32} (hx : ∀ i, (x i).toNat = W (base L + (i 0).val))
    (y : S106496x1000.Idx → F .f32) (O : CellTallies nD τ sig (HIx 1)) (g : S64.Idx → BitVec 32) :
    iprop(Transfers.MayWaits (thr d L) (default : HIx 1) O ∗ (bLoc d L ↦{fullShare} ((fun _ => zero : S64x1000.Idx → F .f32) : Buf (Elt F) (bLoc d L)))
        ∗ semVal (thr d L, .dma cc0_scratch3.sem) 0 ∗ semVal (thr d L, .dma cc0_scratch4.sem) 0 ∗ (cLoc d L ↦{fullShare} (g : Buf (Elt F) (cLoc d L)))
        ∗ (xLoc d L ↦{fullShare} (x : Buf (Elt F) (xLoc d L))) ∗ (oLoc d L ↦[span (base L) 3328]{fullShare} (y : Buf (Elt F) (oLoc d L))) ∗ Owing d L O)
      ⊢ run d L (Scf.Loop.for k0_t2_loop k0_t2_ok (() : Unit) (trip (F := F) (L := L)))
        fun _ => iprop(Transfers.MayWaits (thr d L) (default : HIx 1) O ∗ Inv d L W x y O 52) := by
  iintro ⟨#Hmw, Hb, Hv₁, Hv₂, Hc, Hx, Ho, HO⟩
  iapply (Scf.wp_for frame (wpE (defs₀' (F := F)) 𝒱₀ (thr d L) none) Set.univ _ _ _ k0_t2_ok () (trip (F := F) (L := L))
    (fun k _ => iprop(Transfers.MayWaits (thr d L) (default : HIx 1) O ∗ Inv d L W x y O k)) (fun t u => run_trip hW hx y O t u))
  isplitl
  · isplitr; · iexact Hmw
    unfold Trips.Inv Slot
    simp only [Nat.lt_irrefl, if_false]
    ihave Hb := (pts_halves (d := d) (L := L) _).1 $$ Hb
    icases Hb with ⟨Hb, Hb₁, Hb₂⟩
    isplitl [Hb]
    · iexists _
      isplitr [Hb]; rotate_left 1; · iexact Hb
      ipureintro
      intro j
      rw [if_neg (by omega), if_neg (by omega)]
      exact (if_neg (Nat.lt_irrefl 0)).symm
    isplitl [Hb₁ Hv₁]; · isplitl [Hb₁] <;> iassumption
    isplitl [Hb₂ Hv₂]; · isplitl [Hb₂] <;> iassumption
    isplitl [Hc]
    · iexists g
      isplitr; · ipureintro; exact fun i => ⟨fun h => absurd h (by omega), fun h => absurd h (by simp)⟩
      iexact Hc
    isplitl [Hx]; · iexact Hx
    isplitr [Ho HO]
    · rw [show 64 * (0 - 1) = 0 by rfl, pts_span_zero]
      iempintro
    isplitl [Ho]; · iexact Ho
    iexact HO
  · iintro %u H
    rw [show Scf.trips k0_t2_loop.lb k0_t2_loop.ub k0_t2_loop.st = 52 by decide]
    iexact H

/-- The end of the last trip leaves the buffer at the last rows sent. -/
theorem last_rows {W : Nat → Nat} {b b' : Nat} {f : S64x1000.Idx → F .f32} (h : Filled W b (before W (0 < 52) b') 0 0 f) : f = hot W b' := by
  funext j
  rw [h j, if_neg (by omega), if_neg (by omega)]
  exact if_pos (by decide)

/-- What a tile holds besides the arrays: its buffers, with contents that no longer matter, and its semaphores at zero. -/
def Own (d : Dev nD) (L : grid0.Coords) : HP F :=
  iprop((∃ x : S3328.Idx → BitVec 32, (xLoc d L ↦{fullShare} (x : Buf (Elt F) (xLoc d L))))
    ∗ (∃ f : S64x1000.Idx → F .f32, (bLoc d L ↦{fullShare} (f : Buf (Elt F) (bLoc d L))))
    ∗ (∃ g : S64.Idx → BitVec 32, (cLoc d L ↦{fullShare} (g : Buf (Elt F) (cLoc d L))))
    ∗ semVal (thr d L, .dma cc0_scratch3.sem) 0 ∗ semVal (thr d L, .dma cc0_scratch4.sem) 0 ∗ semVal (thr d L, .dma cc0_scoped0.sem) 0)

/-- A tile's run: its rows of the result hold the one-hot rows of its class numbers. -/
theorem run_tile {X : S106496.Idx → BitVec 32} (hX : ∀ i, (X i).toNat < 1000) (y : S106496x1000.Idx → F .f32) (O : CellTallies nD τ sig (HIx 1)) :
    iprop(Transfers.MayWaits (thr d L) (default : HIx 1) O ∗ (iLoc d L ↦[words (base L) 3328]{fullShare} (X : Buf (Elt F) (iLoc d L)))
        ∗ (oLoc d L ↦[span (base L) 3328]{fullShare} (y : Buf (Elt F) (oLoc d L))) ∗ Own d L ∗ Owing d L O)
      ⊢ run d L (companion (F := F) L) fun _ => iprop((iLoc d L ↦[words (base L) 3328]{fullShare} (X : Buf (Elt F) (iLoc d L)))
        ∗ (oLoc d L ↦[span (base L) 3328]{fullShare} (res (cls X) : Buf (Elt F) (oLoc d L))) ∗ Own d L ∗ Owing d L O) := by
  unfold companion Own
  iintro ⟨#Hmw, HI, Ho, ⟨⟨%x, Hx⟩, ⟨%f, Hb⟩, ⟨%g, Hc⟩, Hv₁, Hv₂, Hv⟩, HO⟩
  iapply (run_fetch _ X x (O := O)) $$ [HI Ho Hx Hb Hc Hv₁ Hv₂ Hv HO]
  isplitl [HI]; · iexact HI
  isplitl [Hx]; · iexact Hx
  isplitl [Hv]; · iexact Hv
  isplitl [HO]; · iexact HO
  isplitr; · iexact Hmw
  iintro ⟨HI, ⟨%x', %hx, Hx⟩, Hv, HO⟩
  unfold run
  simp only [wp_bind]
  iapply (wp_wand_r frame (wpE (defs₀' (F := F)) 𝒱₀ (thr d L) none) Set.univ)
  isplitl [Hb]
  · iapply (run_wipes (d := d) (L := L))
    unfold Wiped
    iexists f
    isplitr; · ipureintro; exact fun j hj => absurd hj (by omega)
    iexact Hb
  iintro %_ Hb
  iapply (wp_wand_r frame (wpE (defs₀' (F := F)) 𝒱₀ (thr d L) none) Set.univ)
  isplitl [Ho Hx Hb Hc Hv₁ Hv₂ HO]
  · iapply (run_trips (d := d) (L := L) (cls_lt hX) hx y O g)
    isplitr; · iexact Hmw
    isplitl [Hb]; · iexact Hb
    isplitl [Hv₁]; · iexact Hv₁
    isplitl [Hv₂]; · iexact Hv₂
    isplitl [Hc]; · iexact Hc
    isplitl [Hx]; · iexact Hx
    isplitl [Ho]; · iexact Ho
    iexact HO
  unfold Trips.Inv Slot
  simp only [show (0 < 52) = True by simp, if_true]
  iintro %_ ⟨-, ⟨%f', %hf, Hb⟩, Hf₁, Hf₂, ⟨%g', %hg, Hc⟩, Hx, Hdone, Hy, ⟨%Ws, HO⟩⟩
  iapply (run_await lo cc0_scratch3.sem _ (O := O) (Ws := Ws)) $$ [HI Hv Hb Hf₁ Hf₂ Hc Hx Hdone Hy HO]
  isplitl [Hf₁]; · iexact Hf₁
  isplitl [HO]; · iexact HO
  isplitr; · iexact Hmw
  iintro ⟨⟨Ho₁, Hb₁⟩, Hv₁, HO⟩
  iapply (run_ret d L PUnit.unit)
  iapply (run_await hi cc0_scratch4.sem _ (O := O)) $$ [HI Hv Hb Ho₁ Hb₁ Hv₁ Hf₂ Hc Hx Hdone Hy HO]
  isplitl [Hf₂]; · iexact Hf₂
  isplitl [HO]; · iexact HO
  isplitr; · iexact Hmw
  iintro ⟨⟨Ho₂, Hb₂⟩, Hv₂, HO⟩
  iapply (run_ret d L PUnit.unit)
  isplitl [HI]; · iexact HI
  isplitl [Hdone Ho₁ Ho₂]
  · iapply (done_join (d := d) (L := L) (cls X) (base L) 52)
    unfold Done
    simp only [show (0 < 52) = True by simp, if_true]
    isplitl [Hdone]; · iexact Hdone
    isplitl [Ho₁] <;> iassumption
  isplitl [Hx Hb Hb₁ Hb₂ Hc Hv Hv₁ Hv₂]
  · isplitl [Hx]; · iexists x'; iexact Hx
    isplitl [Hb Hb₁ Hb₂]
    · iexists f'
      obtain rfl := last_rows hf
      iapply (pts_halves (d := d) (L := L) _).2
      isplitl [Hb]; · iexact Hb
      isplitl [Hb₁] <;> iassumption
    isplitl [Hc]; · iexists g'; iexact Hc
    isplitl [Hv₁]; · iexact Hv₁
    isplitl [Hv₂]; · iexact Hv₂
    iexact Hv
  iexists _
  iexact HO

end Cert.Tile

end
-- ==== Proof.TwinRun.lean ====
/-
  Carrying a run across `Twin`: if every weakly fair execution of the second program ends well, so does every one of the first.

  Two states are matched when their memories and everything in flight are the same and their threads' programs are twins. Each step of
  the first program is answered by the same step of the second, but for a whole-buffer store, which the second answers with three
  steps of the same thread: the second load, the assertion, the store of the rectangle. The assertion holds because no execution of
  the second program stops at one; and where it holds the two stores leave one memory.
-/
module

public import proofs.«01_k».proof.Proof.Twin

@[expose] public section

namespace Cert.Twin
open Idealize.SL.Sem Idealize.ShloMosaic

variable {nD : Nat} {τ : Topo} {sig : RefSig} {Val : EltTy → Type} {Λ : Labels}

/-! ## The two stores -/

/-- Writing a whole view's elements `w` is writing a rectangle's alone, where outside it `w` is what the buffer holds. -/
theorem write_whole_eq {κ : Kind} {sp : Space} {s : Shape} {e : EltTy} (v : View sig κ sp s e) (r : Rect s) (f : v.ty.Contents Val)
    (w : s.Idx → Val e) (hw : ∀ j, j ∉ r.set → w j = v.read Val f j) :
    (v.slice (Rect.whole s)).write Val f w Finset.univ = (v.slice r).write Val f (fun x => w (r.idx x)) Finset.univ := by
  have hid : ∀ j : s.Idx, (Rect.whole s).emb j = j := fun j => by
    funext a; exact Fin.ext (by simp [Rect.whole])
  funext i
  by_cases hi : ∃ j, v.emb j = i
  · obtain ⟨j, rfl⟩ := hi
    have hL : (v.slice (Rect.whole s)).write Val f w Finset.univ (v.emb j) = _root_.cast (congrArg Val v.elt_eq.symm) (w j) := by
      have := View.write_emb_of_mem (v := v.slice (Rect.whole s)) (Val := Val) f w (M := Finset.univ) (x := j) (Finset.mem_univ _)
      have he : (v.slice (Rect.whole s)).emb j = v.emb j := congrArg v.emb (hid j)
      rw [he] at this
      exact this
    by_cases hj : j ∈ r.set
    · obtain ⟨x, rfl⟩ := r.exists_idx_of_mem hj
      rw [hL]
      exact (View.write_emb_of_mem (v := v.slice r) (Val := Val) f (fun x => w (r.idx x)) (M := Finset.univ) (x := x) (Finset.mem_univ _)).symm
    · rw [hL, hw j hj, View.read_apply, cast_cast, cast_eq]
      refine (View.write_of_not_mem (v := v.slice r) (Val := Val) f _ _ fun h => hj ?_).symm
      obtain ⟨x, -, hx⟩ := Finset.mem_map.mp h
      have : r.emb x = j := v.emb.injective hx
      exact this ▸ r.idx_mem x
  · have hi' : ∀ j, v.emb j ≠ i := fun j h => hi ⟨j, h⟩
    rw [View.write_of_not_mem, View.write_of_not_mem]
    · intro h; obtain ⟨x, -, hx⟩ := Finset.mem_map.mp h; exact hi' _ hx
    · intro h; obtain ⟨x, -, hx⟩ := Finset.mem_map.mp h; exact hi' _ hx

/-- The two stores' effect on the memory and what is in flight is one. -/
theorem storePhys_eq (c : Thread nD τ) {s : Shape} {e : EltTy} (m : Memref sig c.2.kind .vmem s e) (r : Rect s) (ph : Phys nD τ sig Val)
    (w : s.Idx → Val e) (hw : ∀ j, j ∉ r.set → w j = m.view.read Val (ph.mem.mem (m.view.loc c)) j)
    (hn : (Finset.univ : Finset s.Idx).Nonempty ∧ (Finset.univ : Finset r.shape.Idx).Nonempty) :
    ({ ph.writeView c (m.access (Rect.whole s)) w Finset.univ with
        ops := Phys.touch ph.ops c.1 (c.2.devRef m.view.ref) (Finset.univ : Finset s.Idx) } : Phys nD τ sig Val)
      = { ph.writeView c (m.access r) (fun x => w (r.idx x)) Finset.univ with
        ops := Phys.touch ph.ops c.1 (c.2.devRef m.view.ref) (Finset.univ : Finset r.shape.Idx) } := by
  have h1 : (ph.mem.writeView c (m.access (Rect.whole s)) w Finset.univ) = ph.mem.writeView c (m.access r) (fun x => w (r.idx x)) Finset.univ := by
    show ph.mem.write _ _ = ph.mem.write _ _
    exact congrArg (ph.mem.write (m.view.loc c)) (write_whole_eq m.view r _ w hw)
  have h2 : Phys.touch ph.ops c.1 (c.2.devRef m.view.ref) (Finset.univ : Finset s.Idx)
      = Phys.touch ph.ops c.1 (c.2.devRef m.view.ref) (Finset.univ : Finset r.shape.Idx) := by
    unfold Phys.touch
    simp only [hn.1, hn.2]
  unfold Phys.writeView
  rw [h1, h2]

/-! ## Matched states -/

/-- Matched states: the same memory and the same in flight, the threads' programs twins. -/
structure Match (s t : RunSt nD τ sig Val Λ) : Prop where
  phys : s.toPhys = t.toPhys
  prog : ∀ c, Option.Rel Twin (s.prog c) (t.prog c)

theorem Match.final {s t : RunSt nD τ sig Val Λ} (h : Match s t) : Final s ↔ Final t := by
  refine forall_congr' fun c => ?_
  have hc := h.prog c
  generalize s.prog c = q at hc
  generalize t.prog c = q' at hc
  cases hc <;> simp

theorem Match.setProg {s t : RunSt nD τ sig Val Λ} (hp : s.toPhys = t.toPhys) (c : Thread nD τ)
    (hne : ∀ c', c' ≠ c → Option.Rel Twin (s.prog c') (t.prog c')) {q q' : Option (Prog (TpuEff nD τ sig Val Λ c.2) PUnit)}
    (hq : Option.Rel Twin q q') : Match (s.setProg c q) (t.setProg c q') where
  phys := hp
  prog c' := by
    by_cases h : c' = c
    · subst h; simpa [RunSt.setProg] using hq
    · simpa [RunSt.setProg, Function.update_of_ne h] using hne c' h

theorem Match.setPhys {s t : RunSt nD τ sig Val Λ} {ph ph' : Phys nD τ sig Val} (hp : ph = ph') (c : Thread nD τ)
    (hne : ∀ c', c' ≠ c → Option.Rel Twin (s.prog c') (t.prog c')) {q q' : Option (Prog (TpuEff nD τ sig Val Λ c.2) PUnit)}
    (hq : Option.Rel Twin q q') : Match ((s.withPhys ph).setProg c q) ((t.withPhys ph').setProg c q') :=
  Match.setProg (s := s.withPhys ph) (t := t.withPhys ph') hp c hne hq

/-- A thread's step at an effect other than a call, from what the effect does. -/
theorem step_eff {D : Defs nD τ sig Val Λ} {c : Thread nD τ} {s : RunSt nD τ sig Val Λ} {ω : Valuation τ sig Val} {β : Type}
    {e : TpuEff nD τ sig Val Λ c.2 β} {k : β → Prog (TpuEff nD τ sig Val Λ c.2) PUnit} (hp : s.prog c = some (.op e k))
    {x : β} {ph : Phys nD τ sig Val} (he : effStep c s.toPhys ω e = some (x, ph)) :
    MeshStep D (.thread c) s ((s.withPhys ph).setProg c (some (k x))) := by
  refine .core c ω ?_
  rw [coreStep, hp, Option.bind_some]
  cases e with
  | call ℓ a => simp [effStep] at he
  | customCall ℓ a => simp [effStep] at he
  | _ => simp only [coreStepInner, he, Option.map_some]

/-- Each step of a thread is answered by the twin's same step, when it is not a whole-buffer store with its counterpart. -/
theorem core_match {D D' : Defs nD τ sig Val Λ} (hD : Tables D D') {s t : RunSt nD τ sig Val Λ} (h : Match s t) {c : Thread nD τ}
    {ω : Valuation τ sig Val} {q' : Option (Prog (TpuEff nD τ sig Val Λ c.2) PUnit)} {s' : RunSt nD τ sig Val Λ}
    (hs : coreStep D c s ω = some (q', s')) :
    (∃ q'' t', coreStep D' c t ω = some (q'', t') ∧ s'.toPhys = t'.toPhys ∧ Option.Rel Twin q' q'')
    ∨ ∃ (sh : Shape) (e : EltTy) (m : Memref sig c.2.kind .vmem sh e) (r : Rect sh) (hl : m.view.LoadsAt (Rect.whole sh).toLoadRect)
        (hw : (m.access (Rect.whole sh)).Stores Finset.univ) (hr : (m.access r).Stores Finset.univ) (f w : sh.Idx → Val e)
        (k k' : PUnit → Prog (TpuEff nD τ sig Val Λ c.2) PUnit), (∀ j, j ∉ r.set → w j = f j)
        ∧ ((Finset.univ : Finset sh.Idx).Nonempty ∧ (Finset.univ : Finset r.shape.Idx).Nonempty) ∧ (∀ x, Twin (k x) (k' x))
        ∧ s.prog c = some (.op (.store m (Rect.whole sh) w Finset.univ hw (.inl rfl)) k) ∧ t.prog c = some (tail m r hl hr f w k') := by
  obtain ⟨ph, sp⟩ := s
  obtain ⟨ph', tp⟩ := t
  have hph : ph = ph' := h.phys
  subst hph
  have hc := h.prog c
  simp only at hc
  unfold coreStep at hs ⊢
  simp only at hs ⊢
  generalize hsp : sp c = q at hc hs
  generalize htp : tp c = q'' at hc ⊢
  cases hc with
  | none => cases hs
  | some hT =>
    rw [Option.bind_some] at hs
    cases hT with
    | ret a =>
      left
      simp only [coreStepInner, Option.some.injEq, Prod.mk.injEq] at hs
      obtain ⟨rfl, rfl⟩ := hs
      exact ⟨_, _, rfl, rfl, .none⟩
    | op e hk =>
      left
      cases e with
      | call ℓ a =>
        simp only [coreStepInner, Option.some.injEq, Prod.mk.injEq] at hs
        obtain ⟨rfl, rfl⟩ := hs
        exact ⟨_, _, rfl, rfl, .some ((hD _ ℓ a).bind hk)⟩
      | customCall ℓ a =>
        simp only [coreStepInner, Option.some.injEq, Prod.mk.injEq] at hs
        obtain ⟨rfl, rfl⟩ := hs
        exact ⟨_, _, rfl, rfl, .some ((hD _ ℓ a).bind fun x => .op _ fun _ => hk x)⟩
      | _ =>
        simp only [coreStepInner] at hs
        obtain ⟨⟨x, ph'⟩, he, hx⟩ := Option.map_eq_some_iff.mp hs
        obtain ⟨rfl, rfl⟩ := Prod.mk.inj hx
        refine ⟨_, (⟨ph, tp⟩ : RunSt nD τ sig Val Λ).withPhys ph', ?_, rfl, .some (hk x)⟩
        rw [Option.bind_some]
        simp only [coreStepInner]
        rw [he]
        rfl
    | rewrite m r hl hs' hr w hw hn hk =>
      left
      simp only [coreStepInner, effStep, Option.map_some, Option.some.injEq, Prod.mk.injEq] at hs
      obtain ⟨rfl, rfl⟩ := hs
      exact ⟨_, _, rfl, rfl, .some (.between m r hl hs' hr _ _ (hw _) hn hk)⟩
    | between m r hl hs' hr f w hw hn hk =>
      right
      exact ⟨_, _, m, r, hl, hs', hr, f, w, _, _, hw, hn, hk, rfl, rfl⟩

/-- Nor does the engine or a delivery tell matched states apart. -/
theorem engine_match {D D' : Defs nD τ sig Val Λ} {s t s' : RunSt nD τ sig Val Λ} (h : Match s t) {a : Agent nD τ}
    (ha : ∀ c, a ≠ .thread c) (hs : MeshStep D a s s') : ∃ t', MeshStep D' a t t' ∧ Match s' t' := by
  obtain ⟨ph, sp⟩ := s
  obtain ⟨ph', tp⟩ := t
  have hph : ph = ph' := h.phys
  subst hph
  have hp := h.prog
  cases hs with
  | core c ω _ => exact absurd rfl (ha c)
  | dmaRead i M alt h hM => exact ⟨_, .dmaRead i M alt h hM, rfl, hp⟩
  | dmaWrite i M h hM => exact ⟨_, .dmaWrite i M h hM, rfl, hp⟩
  | dmaPaySrc i k h hk => exact ⟨_, .dmaPaySrc i k h hk, rfl, hp⟩
  | dmaPayDst i k h hk => exact ⟨_, .dmaPayDst i k h hk, rfl, hp⟩
  | dmaRetire i h hk => exact ⟨_, .dmaRetire i h hk, rfl, hp⟩
  | serve i k alt h hk => exact ⟨_, .serve i k alt h hk, rfl, hp⟩
  | deliver i h => exact ⟨_, .deliver i h, rfl, hp⟩

/-- An agent enabled in the second program's state is enabled in the first's. -/
theorem enabled_match {D D' : Defs nD τ sig Val Λ} {s t : RunSt nD τ sig Val Λ} (h : Match s t) {a : Agent nD τ}
    (ht : Enabled D' a t) : Enabled D a s := by
  obtain ⟨t', ht⟩ := ht
  obtain ⟨ph, sp⟩ := s
  obtain ⟨ph', tp⟩ := t
  have hph : ph = ph' := h.phys
  subst hph
  cases ht with
  | core c ω ht =>
    have hc := h.prog c
    suffices hh : ∃ r, coreStep D c ⟨ph, sp⟩ ω = some r by
      obtain ⟨⟨q, u⟩, hr⟩ := hh
      exact ⟨_, .core c ω hr⟩
    unfold coreStep at ht ⊢
    simp only at hc ht ⊢
    generalize sp c = q at hc ⊢
    generalize tp c = q'' at hc ht
    cases hc with
    | none => cases ht
    | some hT =>
      rw [Option.bind_some] at ht
      cases hT with
      | ret a => exact ⟨_, rfl⟩
      | op e hk =>
        cases e with
        | call ℓ a => exact ⟨_, rfl⟩
        | customCall ℓ a => exact ⟨_, rfl⟩
        | _ =>
          simp only [coreStepInner] at ht
          obtain ⟨⟨x, ph'⟩, he, -⟩ := Option.map_eq_some_iff.mp ht
          refine Option.isSome_iff_exists.mp ?_
          rw [Option.bind_some]
          simp only [coreStepInner]
          rw [he]
          rfl
      | rewrite m r hl hs' hr w hw hn hk => exact ⟨_, rfl⟩
      | between m r hl hs' hr f w hw hn hk => exact ⟨_, rfl⟩
  | dmaRead i M alt h hM => exact ⟨_, .dmaRead i M alt h hM⟩
  | dmaWrite i M h hM => exact ⟨_, .dmaWrite i M h hM⟩
  | dmaPaySrc i k h hk => exact ⟨_, .dmaPaySrc i k h hk⟩
  | dmaPayDst i k h hk => exact ⟨_, .dmaPayDst i k h hk⟩
  | dmaRetire i h hk => exact ⟨_, .dmaRetire i h hk⟩
  | serve i k alt h hk => exact ⟨_, .serve i k alt h hk⟩
  | deliver i h => exact ⟨_, .deliver i h⟩

/-! ## The three steps that answer a whole-buffer store -/

/-- Thread `c` of the first program stands at a whole-buffer store, and the second has made the second load. -/
def Loaded (c : Thread nD τ) (s t : RunSt nD τ sig Val Λ) : Prop :=
  s.toPhys = t.toPhys ∧ (∀ c', c' ≠ c → Option.Rel Twin (s.prog c') (t.prog c'))
  ∧ ∃ (sh : Shape) (e : EltTy) (m : Memref sig c.2.kind .vmem sh e) (r : Rect sh)
      (hw : (m.access (Rect.whole sh)).Stores Finset.univ) (hr : (m.access r).Stores Finset.univ) (f w g : sh.Idx → Val e)
      (k k' : PUnit → Prog (TpuEff nD τ sig Val Λ c.2) PUnit), (∀ j, j ∉ r.set → w j = f j)
      ∧ (∀ j, g j = m.view.read Val (t.mem.mem (m.view.loc c)) j)
      ∧ ((Finset.univ : Finset sh.Idx).Nonempty ∧ (Finset.univ : Finset r.shape.Idx).Nonempty) ∧ (∀ x, Twin (k x) (k' x))
      ∧ s.prog c = some (.op (.store m (Rect.whole sh) w Finset.univ hw (.inl rfl)) k)
      ∧ t.prog c = some (.op (.assume (∀ j, j ∉ r.set → g j = f j) (Classical.propDecidable _)) fun _ =>
          .op (.store m r (fun x => w (r.idx x)) Finset.univ hr (.inl rfl)) k')

/-- The same, and the second program has passed its assertion. -/
def Checked (c : Thread nD τ) (s t : RunSt nD τ sig Val Λ) : Prop :=
  s.toPhys = t.toPhys ∧ (∀ c', c' ≠ c → Option.Rel Twin (s.prog c') (t.prog c'))
  ∧ ∃ (sh : Shape) (e : EltTy) (m : Memref sig c.2.kind .vmem sh e) (r : Rect sh)
      (hw : (m.access (Rect.whole sh)).Stores Finset.univ) (hr : (m.access r).Stores Finset.univ) (w : sh.Idx → Val e)
      (k k' : PUnit → Prog (TpuEff nD τ sig Val Λ c.2) PUnit), (∀ j, j ∉ r.set → w j = m.view.read Val (t.mem.mem (m.view.loc c)) j)
      ∧ ((Finset.univ : Finset sh.Idx).Nonempty ∧ (Finset.univ : Finset r.shape.Idx).Nonempty) ∧ (∀ x, Twin (k x) (k' x))
      ∧ s.prog c = some (.op (.store m (Rect.whole sh) w Finset.univ hw (.inl rfl)) k)
      ∧ t.prog c = some (.op (.store m r (fun x => w (r.idx x)) Finset.univ hr (.inl rfl)) k')

/-- A step from matched states: answered by one step, or the first of the three steps that answer a whole-buffer store. -/
theorem match_step {D D' : Defs nD τ sig Val Λ} (hD : Tables D D') {s t s' : RunSt nD τ sig Val Λ} (h : Match s t) {a : Agent nD τ}
    (hs : MeshStep D a s s') :
    ∃ t', MeshStep D' a t t' ∧ (Match s' t' ∨ ∃ c, a = .thread c ∧ Loaded c s t') := by
  by_cases ha : ∀ c, a ≠ .thread c
  · obtain ⟨t', ht, hm⟩ := engine_match h ha hs
    exact ⟨t', ht, .inl hm⟩
  cases hs with
  | @core c ω _ q' u hcs =>
    rcases core_match hD h hcs with ⟨q'', t', ht, hp, hq⟩ | ⟨sh, e, m, r, hl, hw, hr, f, w, k, k', hwf, hn, hk, hsp, htp⟩
    · refine ⟨_, .core c ω ht, .inl (Match.setProg hp c (fun c' _ => ?_) hq)⟩
      rw [coreStep_prog hcs, coreStep_prog ht]
      exact h.prog c'
    · refine ⟨_, step_eff htp (ω := ω) rfl, .inr ⟨c, rfl, h.phys, fun c' hc => ?_, sh, e, m, r, hw, hr, f, w,
        m.view.readAt Val (Rect.whole sh).toLoadRect (t.mem.mem (m.view.loc c)), k, k', hwf, ?_, hn, hk, hsp, ?_⟩⟩
      · simpa [RunSt.setProg, Function.update_of_ne hc] using h.prog c'
      · intro j
        refine congrArg (m.view.read Val (t.mem.mem (m.view.loc c))) ?_
        funext a
        exact Fin.ext (by simp [Rect.whole])
      · simp only [RunSt.setProg, Function.update_self]
  | _ => exact absurd (fun _ h => by cases h) ha

/-- The second of the three steps: the assertion holds, so it passes. -/
theorem loaded_step {D' : Defs nD τ sig Val Λ} {c : Thread nD τ} {s t : RunSt nD τ sig Val Λ} (h : Loaded c s t)
    {Q : MemSt nD τ sig Val → Prop} (hQ : MeshRun D' Q t) (ω : Valuation τ sig Val) :
    ∃ t', MeshStep D' (.thread c) t t' ∧ Checked c s t' := by
  obtain ⟨hp, hne, sh, e, m, r, hw, hr, f, w, g, k, k', hwf, hg, hn, hk, hsp, htp⟩ := h
  have hP := hQ.assume_holds .refl htp
  have he : effStep c t.toPhys ω (Λ := Λ) (.assume (∀ j, j ∉ r.set → g j = f j) (Classical.propDecidable _)) = some (⟨hP⟩, t.toPhys) := by
    generalize Classical.propDecidable (∀ j, j ∉ r.set → g j = f j) = d
    cases d with
    | isTrue _ => rfl
    | isFalse hc => exact absurd hP hc
  refine ⟨_, step_eff htp he, hp, fun c' hc => ?_, sh, e, m, r, hw, hr, w, k, k', fun j hj => ?_, hn, hk, hsp, ?_⟩
  · simpa [RunSt.setProg, Function.update_of_ne hc] using hne c' hc
  · rw [hwf j hj, ← hP j hj]; exact hg j
  · simp only [RunSt.setProg, Function.update_self]

/-- The third of the three steps: the rectangle's store leaves what the whole buffer's does. -/
theorem checked_step {D D' : Defs nD τ sig Val Λ} {c : Thread nD τ} {s s' t : RunSt nD τ sig Val Λ} (h : Checked c s t)
    (hs : MeshStep D (.thread c) s s') : ∃ t', MeshStep D' (.thread c) t t' ∧ Match s' t' := by
  obtain ⟨hp, hne, sh, e, m, r, hw, hr, w, k, k', hwf, hn, hk, hsp, htp⟩ := h
  cases hs with
  | @core _ ω _ q' u hcs =>
    rw [coreStep, hsp, Option.bind_some] at hcs
    simp only [coreStepInner, effStep, Option.map_some, Option.some.injEq, Prod.mk.injEq] at hcs
    obtain ⟨rfl, rfl⟩ := hcs
    refine ⟨_, step_eff htp (ω := ω) rfl, Match.setPhys ?_ c hne (.some (hk _))⟩
    rw [← hp] at hwf ⊢
    exact storePhys_eq c m r s.toPhys w hwf hn

/-! ## Finite runs -/

theorem not_final_of_prog {s : RunSt nD τ sig Val Λ} {c : Thread nD τ} {q : Prog (TpuEff nD τ sig Val Λ c.2) PUnit}
    (h : s.prog c = some q) : ¬ Final s := not_final_of_isSome c (by rw [h]; rfl)

theorem Loaded.not_final {c : Thread nD τ} {s t : RunSt nD τ sig Val Λ} (h : Loaded c s t) : ¬ Final t := by
  obtain ⟨-, -, sh, e, m, r, hw, hr, f, w, g, k, k', -, -, -, -, -, htp⟩ := h
  exact not_final_of_prog htp

theorem Checked.not_final {c : Thread nD τ} {s t : RunSt nD τ sig Val Λ} (h : Checked c s t) : ¬ Final t := by
  obtain ⟨-, -, sh, e, m, r, hw, hr, w, k, k', -, -, -, -, htp⟩ := h
  exact not_final_of_prog htp

/-- Where the second program stands while it answers one step of the first: matched, or one or two steps into the three. -/
def At (s : RunSt nD τ sig Val Λ) (a : Agent nD τ) : Nat → RunSt nD τ sig Val Λ → Prop
  | 0, t => Match s t
  | 1, t => ∃ c, a = .thread c ∧ Loaded c s t
  | 2, t => ∃ c, a = .thread c ∧ Checked c s t
  | _, _ => False

/-- One step of the second program: the step of the first is answered in full, or one stage further. -/
theorem at_step {D D' : Defs nD τ sig Val Λ} (hD : Tables D D') {s s' t : RunSt nD τ sig Val Λ} {a : Agent nD τ} {i : Nat}
    (h : At s a i t) (hs : MeshStep D a s s') (hn : ¬ Final s) {Q : MemSt nD τ sig Val → Prop} (hQ : MeshRun D' Q t) :
    ∃ t', ¬ Final t ∧ MeshStep D' a t t' ∧ MeshRun D' Q t' ∧ (Match s' t' ∨ At s a (i + 1) t') := by
  match i, h with
  | 0, h =>
    obtain ⟨t', ht, hm⟩ := match_step hD h hs
    have hnt : ¬ Final t := fun hf => hn (Match.final h |>.mpr hf)
    exact ⟨t', hnt, ht, hQ.after ht hnt, hm⟩
  | 1, h1 =>
    obtain ⟨c, rfl, hc⟩ := h1
    have hs' := hs
    cases hs' with
    | core _ ω _ =>
      obtain ⟨t', ht, hm⟩ := loaded_step hc hQ ω
      exact ⟨t', hc.not_final, ht, hQ.after ht hc.not_final, .inr ⟨c, rfl, hm⟩⟩
  | 2, h2 =>
    obtain ⟨c, rfl, hc⟩ := h2
    obtain ⟨t', ht, hm⟩ := checked_step hc hs
    exact ⟨t', hc.not_final, ht, hQ.after ht hc.not_final, .inl hm⟩
  | _ + 3, h => exact h.elim

/-- A step of the first program is answered by a run of the second. -/
theorem step_reaches {D D' : Defs nD τ sig Val Λ} (hD : Tables D D') {s s' t : RunSt nD τ sig Val Λ} {a : Agent nD τ}
    (h : Match s t) (hs : MeshStep D a s s') (hn : ¬ Final s) {Q : MemSt nD τ sig Val → Prop} (hQ : MeshRun D' Q t) :
    ∃ t', Reaches D' t t' ∧ Match s' t' := by
  obtain ⟨t₁, n₁, h₁, hQ₁, hm | hm⟩ := at_step hD (i := 0) h hs hn hQ
  · exact ⟨t₁, .single ⟨n₁, _, h₁⟩, hm⟩
  obtain ⟨t₂, n₂, h₂, hQ₂, hm | hm⟩ := at_step hD hm hs hn hQ₁
  · exact ⟨t₂, .head ⟨n₁, _, h₁⟩ (.single ⟨n₂, _, h₂⟩), hm⟩
  obtain ⟨t₃, n₃, h₃, hQ₃, hm | hm⟩ := at_step hD hm hs hn hQ₂
  · exact ⟨t₃, .head ⟨n₁, _, h₁⟩ (.head ⟨n₂, _, h₂⟩ (.single ⟨n₃, _, h₃⟩)), hm⟩
  · exact hm.elim

/-- A finite run of the first program is answered by one of the second. -/
theorem reaches_reaches {D D' : Defs nD τ sig Val Λ} (hD : Tables D D') {s s' t : RunSt nD τ sig Val Λ}
    (h : Match s t) {Q : MemSt nD τ sig Val → Prop} (hQ : MeshRun D' Q t) (hr : Reaches D s s') :
    ∃ t', Reaches D' t t' ∧ Match s' t' := by
  unfold Reaches at hr
  induction hr with
  | refl => exact ⟨t, .refl, h⟩
  | tail _ hst ih =>
    obtain ⟨u, hu, hm⟩ := ih
    obtain ⟨hn, a, hst⟩ := hst
    obtain ⟨t', ht', hm'⟩ := step_reaches hD hm hst hn (hQ.reaches hu)
    exact ⟨t', hu.trans ht', hm'⟩

/-! ## Infinite runs -/

section Infinite
variable {D D' : Defs nD τ sig Val Λ} {s₀ t₀ : RunSt nD τ sig Val Λ} {Q : MemSt nD τ sig Val → Prop}

/-- A point of the answering run: how many steps of the first program are answered, the stage within the next, the state. -/
structure Point (D' : Defs nD τ sig Val Λ) (Q : MemSt nD τ sig Val → Prop) (ρ : InfRun D s₀) where
  n : Nat
  i : Nat
  t : RunSt nD τ sig Val Λ
  at' : At (ρ.st n) (ρ.ag n) i t
  run : MeshRun D' Q t

theorem Point.exists_next (hD : Tables D D') {ρ : InfRun D s₀} (x : Point D' Q ρ) :
    ∃ y : Point D' Q ρ, (¬ Final x.t ∧ MeshStep D' (ρ.ag x.n) x.t y.t) ∧ (y.n = x.n + 1 ∧ y.i = 0 ∨ y.n = x.n ∧ y.i = x.i + 1) := by
  obtain ⟨n, i, t, h, hQ⟩ := x
  obtain ⟨t', hn, ht, hQ', hm | hm⟩ := at_step hD h (ρ.step n).2 (ρ.step n).1 hQ
  · exact ⟨⟨n + 1, 0, t', hm, hQ'⟩, ⟨hn, ht⟩, .inl ⟨rfl, rfl⟩⟩
  · exact ⟨⟨n, i + 1, t', hm, hQ'⟩, ⟨hn, ht⟩, .inr ⟨rfl, rfl⟩⟩

/-- The points of the answering run. -/
noncomputable def points (hD : Tables D D') {ρ : InfRun D s₀} (x : Point D' Q ρ) : Nat → Point D' Q ρ
  | 0 => x
  | j + 1 => Classical.choose ((points hD x j).exists_next hD)

theorem points_spec (hD : Tables D D') {ρ : InfRun D s₀} (x : Point D' Q ρ) (j : Nat) :
    (¬ Final (points hD x j).t ∧ MeshStep D' (ρ.ag (points hD x j).n) (points hD x j).t (points hD x (j + 1)).t)
      ∧ ((points hD x (j + 1)).n = (points hD x j).n + 1 ∧ (points hD x (j + 1)).i = 0
        ∨ (points hD x (j + 1)).n = (points hD x j).n ∧ (points hD x (j + 1)).i = (points hD x j).i + 1) :=
  Classical.choose_spec ((points hD x j).exists_next hD)

theorem points_stage (hD : Tables D D') {ρ : InfRun D s₀} (x : Point D' Q ρ) (j : Nat) : (points hD x j).i ≤ 2 := by
  have h := (points hD x j).at'
  by_contra hc
  obtain ⟨i, hi⟩ : ∃ i, (points hD x j).i = i + 3 := ⟨(points hD x j).i - 3, by omega⟩
  rw [hi] at h
  exact h

/-- Every number of answered steps from the start's on is met at a matched point, at or after the start. -/
theorem points_reach (hD : Tables D D') {ρ : InfRun D s₀} (x : Point D' Q ρ) (j k : Nat) (hk : (points hD x j).n < k) :
    ∃ j', j ≤ j' ∧ (points hD x j').n = k ∧ (points hD x j').i = 0 := by
  obtain ⟨d, rfl⟩ : ∃ d, k = (points hD x j).n + 1 + d := ⟨k - ((points hD x j).n + 1), by omega⟩
  clear hk
  have hnext : ∀ j, ∃ j', j ≤ j' ∧ (points hD x j').n = (points hD x j).n + 1 ∧ (points hD x j').i = 0 := by
    intro j
    have h0 := points_stage hD x j
    have h1 := points_stage hD x (j + 1)
    have h2 := points_stage hD x (j + 1 + 1)
    have h3 := points_stage hD x (j + 1 + 1 + 1)
    have s0 := (points_spec hD x j).2
    have s1 := (points_spec hD x (j + 1)).2
    have s2 := (points_spec hD x (j + 1 + 1)).2
    rcases s0 with h | h
    · exact ⟨j + 1, by omega, h.1, h.2⟩
    rcases s1 with h' | h'
    · exact ⟨j + 1 + 1, by omega, by omega, h'.2⟩
    rcases s2 with h'' | h''
    · exact ⟨j + 1 + 1 + 1, by omega, by omega, h''.2⟩
    · omega
  induction d with
  | zero => exact hnext j
  | succ d ih =>
    obtain ⟨j₁, hj₁, hn₁, -⟩ := ih
    obtain ⟨j₂, hj₂, hn₂, hi₂⟩ := hnext j₁
    exact ⟨j₂, by omega, by omega, hi₂⟩

/-- The answering run. -/
noncomputable def answer (hD : Tables D D') (h : Match s₀ t₀) (hQ : MeshRun D' Q t₀) (ρ : InfRun D s₀) : InfRun D' t₀ where
  st j := (points hD (⟨0, 0, t₀, by rw [ρ.head]; exact h, hQ⟩ : Point D' Q ρ) j).t
  ag j := ρ.ag (points hD (⟨0, 0, t₀, by rw [ρ.head]; exact h, hQ⟩ : Point D' Q ρ) j).n
  head := rfl
  step j := (points_spec hD _ j).1

/-- The answering run is weakly fair if the answered one is. -/
theorem answer_weaklyFair (hD : Tables D D') (h : Match s₀ t₀) (hQ : MeshRun D' Q t₀) {ρ : InfRun D s₀} (hρ : ρ.WeaklyFair) :
    (answer hD h hQ ρ).WeaklyFair := by
  intro a j hen
  set x : Point D' Q ρ := ⟨0, 0, t₀, by rw [ρ.head]; exact h, hQ⟩ with hx
  obtain ⟨k, hk, hka⟩ := hρ a ((points hD x j).n + 1) fun k hk => by
    obtain ⟨j', hj', hn, hi⟩ := points_reach hD x j k (by omega)
    have hat := (points hD x j').at'
    rw [hi, hn] at hat
    exact enabled_match hat (hen j' hj')
  obtain ⟨j', hj', hn, -⟩ := points_reach hD x j k (by omega)
  exact ⟨j', hj', by show ρ.ag (points hD x j').n = a; rw [hn, hka]⟩

end Infinite

/-! ## Carrying a run over -/

/-- If every weakly fair execution of the second program from a memory ends in a state satisfying `Q`, so does every one of the first. -/
theorem θ_run_of_twin {D D' : Defs nD τ sig Val Λ} (hD : Tables D D')
    (p : (c : Thread nD τ) → Prog (TpuEff nD τ sig Val Λ c.2) PUnit) (m : MemSt nD τ sig Val) (Q : PUnit × MemSt nD τ sig Val → Prop)
    (h : θ_run D' p m Q) : θ_run D p m Q := by
  have hm : Match (load p m : RunSt nD τ sig Val Λ) (load p m) := ⟨rfl, fun c => .some (Twin.refl (p c))⟩
  have hr : MeshRun D' (fun m' => Q (⟨⟩, m')) (load p m) := h
  show MeshRun D (fun m' => Q (⟨⟩, m')) (load p m)
  refine ⟨fun s hs hf => ?_, fun s hs hn => ?_, fun ρ hρ => hr.fair (answer hD hm hr ρ) (answer_weaklyFair hD hm hr hρ)⟩
  · obtain ⟨t, ht, hmt⟩ := reaches_reaches hD hm hr hs
    have := hr.post t ht (hmt.final.mp hf)
    rw [← hmt.phys] at this
    exact this
  · obtain ⟨t, ht, hmt⟩ := reaches_reaches hD hm hr hs
    obtain ⟨a, t', hst⟩ := hr.progress t ht fun hf => hn (hmt.final.mpr hf)
    obtain ⟨s', hs'⟩ := enabled_match (D := D) hmt ⟨t', hst⟩
    exact ⟨a, s', hs'⟩

end Cert.Twin

end
-- ==== Proof.Launch.lean ====
/-
  The launch: what the call hands each of the thirty-two tiles and takes back, and the whole program's run around it. The class numbers,
  in one row, and the result's rows are dealt out by rows; the two reshapes stand before and after.
-/
module

public import proofs.«01_k».proof.Proof.Tile
public import proofs.«01_k».proof.Proof.TwinRun

@[expose] public section

noncomputable section

namespace Cert.Launch
open Cert.KernelIdeal Cert.KernelIdeal.Gen Cert.Companion Cert.Setup Cert.Rows Cert.Send Cert.Trips Cert.Tile
open Idealize.ShloMosaic Idealize.ShloMosaic.StableHlo
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev D : Defs nD τ sig (Elt F) (ΛP (F := F)) := Pipeline.defs pcfgs defs₀'
abbrev 𝒱 : Variants := 𝒱₀.lift
abbrev v₀ : 𝒱.V := Sum.inl none

omit [FloatOps F] in
theorem nSub_zero : (K (F := F)).nSub 0 = 16 := rfl
omit [FloatOps F] in
theorem nCore_zero : (K (F := F)).nCore 0 = 2 := rfl

omit [FloatOps F] in
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL

/-! ## The arrays -/

/-- The argument, the class numbers in one row, the kernel's result, the program's result. -/
abbrev aLoc (d : Dev nD) : Loc nD τ sig := (SparseCore.T d).loc main_arg0
abbrev fLoc (d : Dev nD) : Loc nD τ sig := (SparseCore.T d).loc main_v0
abbrev rLoc (d : Dev nD) : Loc nD τ sig := (SparseCore.T d).loc main_v1
abbrev zLoc (d : Dev nD) : Loc nD τ sig := (SparseCore.T d).loc main_v2

/-- The argument's class numbers in one row; the kernel's result with its rows in the argument's order. -/
def flat (A : S4096x26.Idx → BitVec 32) : S106496.Idx → BitVec 32 := shapeCast S106496 A shapeCasts_S4096x26_S106496
def fold {α : Type} (R : S106496x1000.Idx → α) : S4096x26x1000.Idx → α := shapeCast S4096x26x1000 R shapeCasts_S106496x1000_S4096x26x1000

theorem flat_lt {A : S4096x26.Idx → BitVec 32} (h : ∀ i, (A i).toNat < 1000) (i : S106496.Idx) : (flat A i).toNat < 1000 := h _

variable (m : (ℓ : Loc nD τ sig) → Buf (Elt F) ℓ) (ρ : Dev nD → PrngReg)

/-- The argument's contents at the launch, the class numbers they give the tiles, the kernel's result, the program's result. -/
def arg (d : Dev nD) : S4096x26.Idx → BitVec 32 := m (aLoc d)
def nums (d : Dev nD) : S106496.Idx → BitVec 32 := flat (arg m d)
def rows (d : Dev nD) : S106496x1000.Idx → F .f32 := res (cls (nums m d))
def out (d : Dev nD) : S4096x26x1000.Idx → F .f32 := fold (rows m d)

/-- Every class number is one. -/
def Ok : Prop := ∀ d i, (arg m d i).toNat < 1000

/-! ## What the handshakes carry -/

/-- The class numbers whole, the kernel's result whole; one tile's share of each. -/
abbrev fPts (d : Dev nD) (X : S106496.Idx → BitVec 32) : HP F := fLoc d ↦{fullShare} (X : Buf (Elt F) (fLoc d))
abbrev rPts (d : Dev nD) (y : S106496x1000.Idx → F .f32) : HP F := rLoc d ↦{fullShare} (y : Buf (Elt F) (rLoc d))
abbrev fShare (d : Dev nD) (p : Fin 2 × Fin 16) (X : S106496.Idx → BitVec 32) : HP F :=
  fLoc d ↦[words (base (coords p.1 p.2)) 3328]{fullShare} (X : Buf (Elt F) (fLoc d))
abbrev rShare (d : Dev nD) (p : Fin 2 × Fin 16) (y : S106496x1000.Idx → F .f32) : HP F :=
  rLoc d ↦[span (base (coords p.1 p.2)) 3328]{fullShare} (y : Buf (Elt F) (rLoc d))

/-- A tile's share of both, and a SparseCore's. -/
def share (d : Dev nD) (X : S106496.Idx → BitVec 32) (y : S106496x1000.Idx → F .f32) (c : Fin 2) (s : Fin 16) : HP F :=
  iprop(fShare d (c, s) X ∗ rShare d (c, s) y)
def coreShare (d : Dev nD) (X : S106496.Idx → BitVec 32) (y : S106496x1000.Idx → F .f32) (c : Fin 2) : HP F :=
  bigSep Finset.univ fun s : Fin 16 => share d X y c s

instance share_storable (d : Dev nD) (X : S106496.Idx → BitVec 32) (y : S106496x1000.Idx → F .f32) (c : Fin 2) (s : Fin 16) :
    BI.Storable (upEmb : UEmb _ (MT nD τ sig (HIx 1) (Elt F) ℕ UU ℕ)) (share d X y c s) := by unfold share; infer_instance
instance coreShare_storable (d : Dev nD) (X : S106496.Idx → BitVec 32) (y : S106496x1000.Idx → F .f32) (c : Fin 2) :
    BI.Storable (upEmb : UEmb _ (MT nD τ sig (HIx 1) (Elt F) ℕ UU ℕ)) (coreShare d X y c) := by unfold coreShare; infer_instance

/-- Each SparseCore takes its tiles' shares, each tile its own, and they come back with the result's rows written. -/
def P : (K (F := F)).Pay (nD := nD) (Val := Elt F) (Name := ℕ) (U := UU) where
  st := fun q d c => match q with | 0 => coreShare d (nums m d) (m (rLoc d)) (Fin.cast nCore_zero c)
  dn := fun q d c => match q with | 0 => coreShare d (nums m d) (rows m d) (Fin.cast nCore_zero c)
  go := fun q d c i => match q with | 0 => share d (nums m d) (m (rLoc d)) (Fin.cast nCore_zero c) (Fin.cast nSub_zero i)
  td := fun q d c i => match q with | 0 => share d (nums m d) (rows m d) (Fin.cast nCore_zero c) (Fin.cast nSub_zero i)
  x := fun _ _ => iprop(emp)

instance P_storable : (P (F := F) m).IsStorable where
  st q d c := match q with | 0 => coreShare_storable d (nums m d) (m (rLoc d)) (Fin.cast nCore_zero c)
  dn q d c := match q with | 0 => coreShare_storable d (nums m d) (rows m d) (Fin.cast nCore_zero c)
  go q d c i := match q with | 0 => share_storable d (nums m d) (m (rLoc d)) (Fin.cast nCore_zero c) (Fin.cast nSub_zero i)
  td q d c i := match q with | 0 => share_storable d (nums m d) (rows m d) (Fin.cast nCore_zero c) (Fin.cast nSub_zero i)

/-! ## A tile's part of the launch -/

section Tile
variable (d : Dev nD) (L : grid0.Coords)

omit [FloatOps F] in
/-- A tile's semaphores at zero: the three it names, and the rest. -/
theorem ownSems0_V :
    (ownSems0 (thr d L) : HP F)
      = iprop(semVal (thr d L, .dma cc0_scratch3.sem) 0 ∗ semVal (thr d L, .dma cc0_scratch4.sem) 0 ∗ semVal (thr d L, .dma cc0_scoped0.sem) 0
          ∗ bigSep ((((ownCells (thr d L)).erase (thr d L, .dma cc0_scratch3.sem)).erase (thr d L, .dma cc0_scratch4.sem)).erase (thr d L, .dma cc0_scoped0.sem))
              fun g => semVal g 0) := by
  have hm : ∀ s : DmaSem sig, ((thr d L, .dma s) : GSem nD τ sig) ∈ ownCells (thr d L) := fun s =>
    mem_ownCells.mpr ⟨rfl, (show ∀ s : DmaSem sig, (SemLoc.dma s : SemLoc sig).isScoped .scVector = true by decide) s⟩
  have hne : ∀ s s' : DmaSem sig, s ≠ s' → ((thr d L, .dma s) : GSem nD τ sig) ≠ (thr d L, .dma s') := fun s s' h e =>
    h (SemLoc.dma.inj (congrArg (fun g : GSem nD τ sig => g.2) e))
  unfold SparseCore.Cfg.ownSems0
  rw [SparseCore.bigSep_erase' (hm cc0_scratch3.sem),
    SparseCore.bigSep_erase' (Finset.mem_erase.mpr ⟨hne cc0_scratch4.sem cc0_scratch3.sem (by decide), hm cc0_scratch4.sem⟩),
    SparseCore.bigSep_erase' (Finset.mem_erase.mpr ⟨hne cc0_scoped0.sem cc0_scratch4.sem (by decide),
      Finset.mem_erase.mpr ⟨hne cc0_scoped0.sem cc0_scratch3.sem (by decide), hm cc0_scoped0.sem⟩⟩)]

omit [FloatOps F] in
/-- A tile's buffers: the three it names, at some contents, and the rest. -/
theorem ownBufs_V :
    (ownBufs (thr d L) : HP F)
      = iprop((∃ x, (thr d L).loc cc0_scratch0 ↦{fullShare} x) ∗ (∃ f, (thr d L).loc cc0_scratch1 ↦{fullShare} f) ∗ (∃ g, (thr d L).loc cc0_scratch2 ↦{fullShare} g)
          ∗ bigSep ((((ownRefs (τ := τ) (proc L)).erase ((proc L).devRef cc0_scratch0)).erase ((proc L).devRef cc0_scratch1)).erase ((proc L).devRef cc0_scratch2))
              fun b => iprop(∃ f, ((d, b) : Loc nD τ sig) ↦{fullShare} f)) := by
  have hm : ∀ b : Ref sig .scVector, (b = cc0_scratch0 ∨ b = cc0_scratch1 ∨ b = cc0_scratch2) → (proc L).devRef b ∈ ownRefs (τ := τ) (proc L) := by
    intro b h
    rcases h with rfl | rfl | rfl <;> exact SparseCore.Cfg.mem_ownRefs_of_owner rfl
  have hne : ∀ b b' : Ref sig .scVector, b ≠ b' → (proc L).devRef b ≠ (proc L).devRef b' := fun b b' h e => h (Proc.devRef_injective _ e)
  unfold SparseCore.Cfg.ownBufs
  refine (SparseCore.bigSep_erase' (hm cc0_scratch0 (.inl rfl))).trans ?_
  rw [SparseCore.bigSep_erase' (Finset.mem_erase.mpr ⟨hne cc0_scratch1 cc0_scratch0 (by decide), hm cc0_scratch1 (.inr (.inl rfl))⟩),
    SparseCore.bigSep_erase' (Finset.mem_erase.mpr ⟨hne cc0_scratch2 cc0_scratch1 (by decide),
      Finset.mem_erase.mpr ⟨hne cc0_scratch2 cc0_scratch0 (by decide), hm cc0_scratch2 (.inr (.inr rfl))⟩⟩)]

/-- The task on a tile, from what the launch deals it to what it hands back. -/
theorem tile_body (hF : (K (F := F)).Facts) {X : S106496.Idx → BitVec 32} (hX : ∀ i, (X i).toNat < 1000) (y : S106496x1000.Idx → F .f32)
    (O : CellTallies nD τ sig (HIx 1)) (W : Waits sig (HIx 1)) (hO : ∀ g, O g none = 0) :
    iprop(levAts (K (F := F)).L (K (F := F)).lev ∗ emp
        ∗ (((fLoc d ↦[words (base L) 3328]{fullShare} (X : Buf (Elt F) (fLoc d))) : HP F) ∗ (rLoc d ↦[span (base L) 3328]{fullShare} (y : Buf (Elt F) (rLoc d))))
        ∗ scopedBufs (thr d L) ∗ scopedSems0 (thr d L) ∗ owes (thr d L) O W)
      ⊢ wp frame (wpE (defs₀' (F := F)) 𝒱₀ (thr d L) none) Set.univ (companion (F := F) L)
          fun _ => iprop((((fLoc d ↦[words (base L) 3328]{fullShare} (X : Buf (Elt F) (fLoc d))) : HP F)
              ∗ (rLoc d ↦[span (base L) 3328]{fullShare} (res (cls X) : Buf (Elt F) (rLoc d))))
            ∗ scopedBufs (thr d L) ∗ scopedSems0 (thr d L)
            ∗ ∃ W', ⌜∀ p ∈ W', p ∈ W ∨ p.2 = none ∨ p.2 = some (0 : Fin 1)⌝ ∗ owes (thr d L) O W') := by
  rw [(K (F := F)).scopedBufs_V hF d ((L 0).castLE hcore0) ((L 1).castLE hsub0),
    SparseCore.Cfg.scopedSems0_V (Val := Elt F) d ((L 0).castLE hcore0) ((L 1).castLE hsub0), ownSems0_V, ownBufs_V]
  iintro ⟨#Hlv, -, ⟨Hi, Ho⟩, ⟨⟨%x, Hx⟩, ⟨%f, Hb⟩, ⟨%g, Hc⟩, Hbufs⟩, ⟨Hv₁, Hv₂, Hv, Hsems⟩, HO⟩
  ihave Hmw := (show levAts (K (F := F)).L (K (F := F)).lev ⊢ Transfers.MayWaits (thr d L) (default : HIx 1) O from
    (K (F := F)).mayWaits_none (thr := thr d L) hO) $$ Hlv
  iapply (wp_wand_r Idealize.ShloMosaic.frame (wpE (defs₀' (F := F)) 𝒱₀ (thr d L) none) Set.univ)
  isplitl [Hi Ho Hx Hb Hc Hv₁ Hv₂ Hv HO]
  · iapply (run_tile (d := d) (L := L) hX y O)
    isplitr; · iexact Hmw
    isplitl [Hi]; · iexact Hi
    isplitl [Ho]; · iexact Ho
    isplitr [HO]
    · unfold Own
      isplitl [Hx]; · iexists x; iexact Hx
      isplitl [Hb]; · iexists f; iexact Hb
      isplitl [Hc]; · iexists g; iexact Hc
      isplitl [Hv₁]; · iexact Hv₁
      isplitl [Hv₂]; · iexact Hv₂
      iexact Hv
    · unfold Owing; iexists W; iexact HO
  unfold Own Owing
  iintro %_ ⟨Hi, Ho, ⟨⟨%x, Hx⟩, ⟨%f, Hb⟩, ⟨%g, Hc⟩, Hv₁, Hv₂, Hv⟩, ⟨%W', HO⟩⟩
  isplitl [Hi Ho]
  · isplitl [Hi]; · iexact Hi
    iexact Ho
  isplitl [Hx Hb Hc Hbufs]
  · isplitl [Hx]; · iexists x; iexact Hx
    isplitl [Hb]; · iexists f; iexact Hb
    isplitl [Hc]; · iexists g; iexact Hc
    iexact Hbufs
  isplitl [Hv₁ Hv₂ Hv Hsems]
  · isplitl [Hv₁]; · iexact Hv₁
    isplitl [Hv₂]; · iexact Hv₂
    isplitl [Hv]; · iexact Hv
    iexact Hsems
  iexists W'; isplitr
  · ipureintro; intro p _
    rcases p.2 with _ | q
    · exact .inr (.inl rfl)
    · exact .inr (.inr (congrArg some (Subsingleton.elim q 0)))
  · iexact HO

end Tile

theorem defs₀_vector (c : Fin τ.nSC) (s : Fin τ.nSub) :
    defs₀' (F := F) (.scVector c s) 0 () = SparseCore.onTile hcore0 hsub0 (fun c s => companion (F := F) (coords c s)) ⟨⟩ c s := rfl

/-- Every tile meets its obligation. -/
theorem tileObl (hF : (K (F := F)).Facts) (hm : Ok m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀' (F := F) (.scVector ((K (F := F)).core 0 c) ((K (F := F)).sub 0 i)) 0 ())) _
  refine BI.Entails.trans ?_ (Pipeline.wp_liftProg (D (F := F)) (Pipeline.defs_kernel pcfgs defs₀') 𝒱₀ _ Set.univ none _ _)
  rw [defs₀_vector]; simp only [SparseCore.onTile, hci, and_self, ↓reduceDIte]
  exact tile_body d (coords ⟨_, hci.1⟩ ⟨_, hci.2⟩) hF (X := nums m d) (flat_lt (hm d)) (m (rLoc d)) O W hO

theorem core_tasks (d : Dev nD) (X : S106496.Idx → BitVec 32) (y : S106496x1000.Idx → F .f32) (c : Fin 2) :
    (bigSep Finset.univ fun i : Fin ((K (F := F)).nSub 0) => share d X y c (Fin.cast nSub_zero i)) = coreShare d X y c :=
  bigSep_congr fun _ _ => congrArg (share d X y c) (Fin.ext rfl)

/-- A SparseCore's share is its tiles' shares, before and after. -/
theorem vecSplit : (K (F := F)).VecSplit' (P m) 0 := by
  intro d c
  show coreShare d (nums m d) (m (rLoc d)) (Fin.cast nCore_zero c) ⊢ |={Set.univ}=> iprop(
      (bigSep Finset.univ fun i : Fin ((K (F := F)).nSub 0) => share d (nums m d) (m (rLoc d)) (Fin.cast nCore_zero c) (Fin.cast nSub_zero i))
      ∗ ((bigSep Finset.univ fun i : Fin ((K (F := F)).nSub 0) => share d (nums m d) (rows m d) (Fin.cast nCore_zero c) (Fin.cast nSub_zero i))
          -∗ coreShare d (nums m d) (rows m d) (Fin.cast nCore_zero c)))
  rw [core_tasks, core_tasks]
  iintro H; imodintro
  isplitl [H]; · iexact H
  iintro H; iexact H

/-! ## The whole arrays -/

/-- The tiles' rows. -/
theorem base_coords (p : Fin 2 × Fin 16) : base (coords p.1 p.2) = 6656 * p.2.val + 3328 * p.1.val := rfl

/-- Two tiles' rows do not meet. -/
theorem apart {p p' : Fin 2 × Fin 16} (h : p ≠ p') {r : Nat} (h₁ : base (coords p.1 p.2) ≤ r ∧ r < base (coords p.1 p.2) + 3328)
    (h₂ : base (coords p'.1 p'.2) ≤ r ∧ r < base (coords p'.1 p'.2) + 3328) : False := by
  rw [base_coords] at h₁ h₂
  have := p.1.isLt; have := p'.1.isLt
  exact h (Prod.ext (Fin.ext (by omega)) (Fin.ext (by omega)))

/-- Every row is some tile's. -/
theorem owned {r : Nat} (h : r < 106496) : ∃ p : Fin 2 × Fin 16, base (coords p.1 p.2) ≤ r ∧ r < base (coords p.1 p.2) + 3328 := by
  refine ⟨(⟨r / 3328 % 2, by omega⟩, ⟨r / 6656, by omega⟩), ?_⟩
  rw [base_coords]
  show 6656 * (r / 6656) + 3328 * (r / 3328 % 2) ≤ r ∧ r < 6656 * (r / 6656) + 3328 * (r / 3328 % 2) + 3328
  omega

abbrev wordsOf (p : Fin 2 × Fin 16) : Finset S106496.Idx := words (base (coords p.1 p.2)) 3328
abbrev spanOf (p : Fin 2 × Fin 16) : Finset S106496x1000.Idx := span (base (coords p.1 p.2)) 3328

theorem words_apart : ∀ p ∈ (Finset.univ : Finset (Fin 2 × Fin 16)), ∀ p' ∈ (Finset.univ : Finset (Fin 2 × Fin 16)), p ≠ p' → Disjoint (wordsOf p) (wordsOf p') :=
  fun _ _ _ _ h => Finset.disjoint_left.mpr fun _ h₁ h₂ => apart h (mem_words'.mp h₁) (mem_words'.mp h₂)
theorem spans_apart : ∀ p ∈ (Finset.univ : Finset (Fin 2 × Fin 16)), ∀ p' ∈ (Finset.univ : Finset (Fin 2 × Fin 16)), p ≠ p' → Disjoint (spanOf p) (spanOf p') :=
  fun _ _ _ _ h => Finset.disjoint_left.mpr fun _ h₁ h₂ => apart h (mem_span.mp h₁) (mem_span.mp h₂)
theorem words_cover : (Finset.univ : Finset (Fin 2 × Fin 16)).biUnion wordsOf = Finset.univ :=
  Finset.eq_univ_of_forall fun j => by
    obtain ⟨p, hp⟩ := owned (j 0).isLt
    exact Finset.mem_biUnion.mpr ⟨p, Finset.mem_univ _, mem_words'.mpr hp⟩
theorem spans_cover : (Finset.univ : Finset (Fin 2 × Fin 16)).biUnion spanOf = Finset.univ :=
  Finset.eq_univ_of_forall fun j => by
    obtain ⟨p, hp⟩ := owned (j 0).isLt
    exact Finset.mem_biUnion.mpr ⟨p, Finset.mem_univ _, mem_span.mpr hp⟩

theorem fPts_shares (d : Dev nD) (X : S106496.Idx → BitVec 32) :
    (fPts d X : HP F) = bigSep Finset.univ fun p : Fin 2 × Fin 16 => fShare d p X := by
  unfold fPts fShare
  rw [← pointsTo_biUnion Finset.univ (ℓ := fLoc d) wordsOf words_apart, words_cover]
  try rfl
theorem rPts_shares (d : Dev nD) (y : S106496x1000.Idx → F .f32) :
    (rPts d y : HP F) = bigSep Finset.univ fun p : Fin 2 × Fin 16 => rShare d p y := by
  unfold rPts rShare
  rw [← pointsTo_biUnion Finset.univ (ℓ := rLoc d) spanOf spans_apart, spans_cover]
  try rfl

/-- The two SparseCores' shares are the two arrays. -/
theorem cores_eq (d : Dev nD) (X : S106496.Idx → BitVec 32) (y : S106496x1000.Idx → F .f32) :
    (bigSep Finset.univ fun c : Fin 2 => coreShare d X y c : HP F) = iprop(fPts d X ∗ rPts d y) := by
  rw [fPts_shares, rPts_shares, ← bigSep_sep', BI.bigSep_univ_prod]
  rfl

theorem st0_eq (d : Dev nD) :
    (bigSep Finset.univ fun c : Fin ((K (F := F)).nCore 0) => (P m).st 0 d c) = iprop(fPts d (nums m d) ∗ rPts d (m (rLoc d))) :=
  (bigSep_congr fun _ _ => congrArg (coreShare d (nums m d) (m (rLoc d))) (Fin.ext rfl)).trans (cores_eq d (nums m d) (m (rLoc d)))
theorem dn0_eq (d : Dev nD) :
    (bigSep Finset.univ fun c : Fin ((K (F := F)).nCore 0) => (P m).dn 0 d c) = iprop(fPts d (nums m d) ∗ rPts d (rows m d)) :=
  (bigSep_congr fun _ _ => congrArg (coreShare d (nums m d) (rows m d)) (Fin.ext rfl)).trans (cores_eq d (nums m d) (rows m d))

/-! ## The resources at the start -/

def u₀ : UU := (initOf (K (F := F)).hsCells (K (F := F)).hsToks, 1)

omit [FloatOps F] in
theorem bigSep_emp' {I : Type} (s : Finset I) : (bigSep s fun _ => iprop(emp)) = (iprop(emp) : HP F) := bigSep_emp_const s

theorem hu₀ : (ownU (u₀ (F := F)) : HP F)
    ⊢ |={Set.univ}=> iprop(BI.own (EH (F := F) (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The program around the call -/

abbrev a' : DevRef τ sig := Proc.devRef .tc (main_arg0 : Ref sig .tc)
abbrev f' : DevRef τ sig := Proc.devRef .tc (main_v0 : Ref sig .tc)
abbrev r' : DevRef τ sig := Proc.devRef .tc (main_v1 : Ref sig .tc)
abbrev z' : DevRef τ sig := Proc.devRef .tc (main_v2 : Ref sig .tc)
abbrev opIn : HloOp τ sig (Elt F) := StableHlo.reshape main_arg0 main_v0 rfl shapeCasts_S4096x26_S106496
abbrev opOut : HloOp τ sig (Elt F) := StableHlo.reshape main_v1 main_v2 rfl shapeCasts_S106496x1000_S4096x26x1000

/-- The program's arrays. -/
abbrev S4 : Finset (DevRef τ sig) := {a', f', r', z'}

omit [FloatOps F] in
theorem held_S4 (d : Dev nD) (W : Valuation τ sig (Elt F)) :
    (held (T d) S4 W : HP F) = iprop((aLoc d ↦{fullShare} W a') ∗ (fLoc d ↦{fullShare} W f') ∗ (rLoc d ↦{fullShare} W r') ∗ zLoc d ↦{fullShare} W z') := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : HP F) = iprop((aLoc d ↦{fullShare} W main_arg0) ∗ (fLoc d ↦{fullShare} W main_v0) ∗ (rLoc d ↦{fullShare} W main_v1)
      ∗ zLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-- The arrays at the launch, and after the call. -/
def V0 (d : Dev nD) : Valuation τ sig (Elt F) := fun b => m (d, b)
def V1 (d : Dev nD) : Valuation τ sig (Elt F) := Function.update ((opIn (F := F)).result (V0 m d)) r' (rows m d)

theorem unscoped_held (d : Dev nD) : (unscopedBufs d (fun b => m ((SparseCore.T d).loc b)) : HP F) = held (T d) S4 (V0 m d) := by
  rw [unscopedBufs_eq, held_S4]; rfl

theorem hIn : (opIn (F := F)).bufs ⊆ S4 := show ({a', f'} : Finset (DevRef τ sig)) ⊆ S4 by decide
theorem hOut : (opOut (F := F)).bufs ⊆ S4 := show ({r', z'} : Finset (DevRef τ sig)) ⊆ S4 by decide

theorem in_a (d : Dev nD) : (opIn (F := F)).result (V0 m d) a' = m (aLoc d) :=
  (opIn (F := F)).result_of_not_mem _ (show a' ∉ ({f'} : Finset (DevRef τ sig)) by decide)
theorem in_f (d : Dev nD) : (opIn (F := F)).result (V0 m d) f' = (nums m d : Buf (Elt F) (fLoc d)) :=
  (StableHlo.reshape_result main_arg0 main_v0 rfl shapeCasts_S4096x26_S106496 _ _ (V0 m d)).trans rfl
theorem in_r (d : Dev nD) : (opIn (F := F)).result (V0 m d) r' = m (rLoc d) :=
  (opIn (F := F)).result_of_not_mem _ (show r' ∉ ({f'} : Finset (DevRef τ sig)) by decide)
theorem V1_r (d : Dev nD) : V1 m d r' = (rows m d : Buf (Elt F) (rLoc d)) := Function.update_self _ _ _
theorem V1_a (d : Dev nD) : V1 m d a' = m (aLoc d) := (Function.update_of_ne (show a' ≠ r' by decide) _ _).trans (in_a m d)
theorem V1_f (d : Dev nD) : V1 m d f' = (nums m d : Buf (Elt F) (fLoc d)) := (Function.update_of_ne (show f' ≠ r' by decide) _ _).trans (in_f m d)
theorem V1_z (d : Dev nD) : V1 m d z' = (opIn (F := F)).result (V0 m d) z' := Function.update_of_ne (show z' ≠ r' by decide) _ _
theorem out_a (d : Dev nD) : (opOut (F := F)).result (V1 m d) a' = m (aLoc d) :=
  ((opOut (F := F)).result_of_not_mem _ (show a' ∉ ({z'} : Finset (DevRef τ sig)) by decide)).trans (V1_a m d)
theorem out_z (d : Dev nD) : (opOut (F := F)).result (V1 m d) z' = (out m d : Buf (Elt F) (zLoc d)) := by
  refine (StableHlo.reshape_result main_v1 main_v2 rfl shapeCasts_S106496x1000_S4096x26x1000 _ _ (V1 m d)).trans ?_
  show (fun i => shapeCast S4096x26x1000 (V1 m d r') _ i) = _
  rw [V1_r]
  rfl

/-- What the program leaves the claim: the argument as it was, the result at the one-hot rows. -/
abbrev FIN (d : Dev nD) : HP F := iprop((aLoc d ↦{fullShare} m (aLoc d)) ∗ zLoc d ↦{fullShare} (out m d : Buf (Elt F) (zLoc d)))

/-- The program on a device: the reshape of the argument, the call, the reshape of its result. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opIn) (S := S4) hIn (V := V0 m d)) $$ [Hb Hheld]
  · isplitl [Hb] <;> iassumption
  iintro ⟨Hb, Hheld⟩
  ihave Hh := (Entails.of_eq (held_S4 (F := F) d _)) $$ Hheld
  rw [in_a, in_f, in_r]
  icases Hh with ⟨Ha, Hf, Hr, Hz⟩
  rw [wp_ret]; imodintro
  iapply ((K (F := F)).wp_run (D (F := F)) 𝒱 (EH := EH) (P := P m) κ d 0) $$ [Hst Ha Hf Hr Hz Hb Hts]
  isplitr; · iexact Hctx
  isplitl [Hst]; · iexact Hst
  isplitl [Hf Hr]
  · rw [st0_eq]
    isplitl [Hf]; · iexact Hf
    iexact Hr
  iintro ⟨Hst, Hdn⟩
  ihave Hdn' := (Entails.of_eq (dn0_eq m d)) $$ Hdn
  icases Hdn' with ⟨Hf, Hr⟩
  iapply (wp_hlo_within 𝒱 (SparseCore.T d) none Set.univ (op := opOut) (S := S4) hOut (V := V1 m d)) $$ [Hb Ha Hf Hr Hz]
  · isplitl [Hb]; · iexact Hb
    rw [held_S4, V1_a, V1_f, V1_r, V1_z]
    isplitl [Ha]; · iexact Ha
    isplitl [Hf]; · iexact Hf
    isplitl [Hr]; · iexact Hr
    iexact Hz
  iintro ⟨Hb, Hheld⟩
  ihave Hh := (Entails.of_eq (held_S4 (F := F) d _)) $$ Hheld
  rw [out_a, out_z]
  icases Hh with ⟨Ha, -, -, Hz⟩
  rw [wp_ret]; imodintro; imodintro
  isplitl [Hst]; · iexact Hst
  isplitr [Hb Hts]
  · isplitl [Ha]; · iexact Ha
    iexact Hz
  isplitl [Hb] <;> iassumption

/-- What a final memory of a device says. -/
def fq (d : Dev nD) (s' : Phys nD τ sig (Elt F)) : Prop := s'.mem.mem (aLoc d) = m (aLoc d) ∧ s'.mem.mem (zLoc d) = out m d

theorem hfin (d : Dev nD) (s' : Phys nD τ sig (Elt F)) : iprop(FIN m d ∗ SI s') ⊢ (⌜fq m d s'⌝ : HP F) := by
  iintro ⟨⟨Ha, Hz⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (SI_pointsTo_agree (st := s') (ℓ := zLoc d) (I := Finset.univ) (q := fullShare) (f := (out m d : Buf (Elt F) (zLoc d)))) $$ [HSI Hz]
  · isplitl [HSI] <;> iassumption
  icases H with %h2
  ipureintro
  exact ⟨funext fun (i : Idx (aLoc d)) => h1 i (Finset.mem_univ i), funext fun (i : Idx (zLoc d)) => h2 i (Finset.mem_univ i)⟩

/-! ## The run -/

/-- After the run: the argument unchanged, the result the one-hot rows of its class numbers, every semaphore at zero. -/
def QC : PUnit × MemSt nD τ sig (Elt F) → Prop := fun r =>
  (∀ c : Dev nD, r.2.mem (aLoc c) = m (aLoc c) ∧ r.2.mem (zLoc c) = out m c) ∧ r.2.sem = fun _ => 0

theorem run_companion [∀ e, Nonempty (Elt F e)] (hm : Ok m) :
    θ_run (sc.defs (Pipeline.defs pcfgs defs₀')) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hm)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

/-- The kernel's run, at any float values. -/
theorem run_main [∀ e, Nonempty (Elt F e)] (hm : Ok m) :
    θ_run (Cert.KernelIdeal.defs (F := F)) (Cert.KernelIdeal.threads (F := F)) ⟨m, fun _ => 0, ρ⟩ (QC m) :=
  Cert.Twin.θ_run_of_twin tables _ _ _ (run_companion m ρ hm)

end Cert.Launch

end
-- ==== Proof.Value.lean ====
/-
  The reference's value: a scatter of ones into zeros at the pairs (row, class number) gives the one-hot rows, when every class number
  names a column. And what the precondition says of the argument.
-/
module

public import proofs.«01_k».proof.Proof.Launch
public import proofs.«01_k».proof.Proof.Gen.ReferenceIdeal
public import proofs.«01_k».proof.Proof.Gen.Pre_classes
public import Idealize.ShloMosaic.Lib.Pipeline.Value
public import Idealize.ShloMosaic.Lib.Routing.OpsPair
public import Idealize.ShloMosaic.Lib.Routing.OpsSet
public import Idealize.ShloMosaic.Lib.ReduceAll

@[expose] public section

noncomputable section

namespace Cert.Value
open Cert.KernelIdeal (S106496 S106496x1000 S4096x26 S4096x26x1000 S_)
open Cert.ReferenceIdeal (S106496x1 S106496x2)
open Cert.Rows Cert.Tile
open Idealize.ShloMosaic Idealize.ShloMosaic.Routing

variable {F : FTy → Type} [FloatOps F]

/-- Word `q` of the index pair of update `k`. -/
def word (k : S106496.Idx) (q : Fin 2) : S106496x2.Idx
  | ⟨0, _⟩ => k 0
  | ⟨1, _⟩ => q

/-- An update lands at the row and column its two words, read signed, name. -/
theorem lands (d : ScatterDims S106496x1000 S106496x2 S106496) (hi : d.insertedWindowDims = [0, 1]) (hs : d.scatterDimsToOperandDims = [0, 1])
    (hv : d.indexVectorDim = 1) (idx : IVec S106496x2 32) (k : S106496.Idx) (j : S106496x1000.Idx) :
    d.resultIdx? k idx = some j ↔ (idx (word k 0)).toInt = (j 0).val ∧ (idx (word k 1)).toInt = (j 1).val := by
  have hall : ∀ q : Fin 2, q ∈ [(0 : Fin 2), 1] := by decide
  have hwin : ∀ q : Fin 2, d.window k q = 0 := fun q => by
    unfold ScatterDims.window
    refine dif_neg fun h => ?_
    have h := of_decide_eq_true (List.mem_filter.1 h).2
    rw [hi] at h
    exact h (hall q)
  have hstart : ∀ q : Fin 2, d.start k idx q = (idx (word k q)).toInt := fun q => by
    have hq : q ∈ d.scatterDimsToOperandDims := hs ▸ hall q
    unfold ScatterDims.start
    rw [dif_pos hq]
    refine congrArg (fun p => (idx p).toInt) (funext fun b => ?_)
    unfold ScatterDims.siIdx
    match b with
    | ⟨0, _⟩ =>
      rw [dif_neg (by rw [hv]; exact Nat.zero_ne_one)]
      have hk : ∀ x : Fin 1, (k x).val = (k 0).val := fun x => by rw [Subsingleton.elim x 0]
      exact Fin.ext (hk _)
    | ⟨1, _⟩ =>
      rw [dif_pos hv.symm]
      refine Fin.ext ?_
      show List.idxOf q d.scatterDimsToOperandDims = q.val
      rw [hs]
      exact (show ∀ q : Fin 2, List.idxOf q [(0 : Fin 2), 1] = q.val by decide) q
  rw [resultIdx?_eq_some]
  constructor
  · intro h
    have h0 := h 0
    have h1 := h 1
    rw [hstart, hwin] at h0 h1
    exact ⟨by simpa using h0, by simpa using h1⟩
  · rintro ⟨h0, h1⟩
    have e : ∀ a : Fin 2, (idx (word k a)).toInt = (j a).val → d.start k idx a + (d.window k a : Int) = (j a).val := fun a h => by
      rw [hstart, hwin, h]; simp
    intro a
    match a with
    | ⟨0, _⟩ => exact e 0 h0
    | ⟨1, _⟩ => exact e 1 h1

theorem toInt_small {x : BitVec 32} (h : x.toNat < 2147483648) : x.toInt = x.toNat := by
  rw [BitVec.toInt_eq_toNat_cond]; split <;> omega

/-- Ones scattered into zeros at the pairs (row, class number) are the one-hot rows. -/
theorem scatter_rows (d : ScatterDims S106496x1000 S106496x2 S106496) (hi : d.insertedWindowDims = [0, 1]) (hs : d.scatterDimsToOperandDims = [0, 1])
    (hv : d.indexVectorDim = 1) (idx : IVec S106496x2 32) (X : S106496.Idx → BitVec 32) (hX : ∀ i, (X i).toNat < 1000)
    (h0 : ∀ k, idx (word k 0) = BitVec.ofNat 32 (k 0).val) (h1 : ∀ k, idx (word k 1) = X k) :
    Host.scatter d (fun _ b => b) (fun _ => zero) idx (fun _ => one) = (res (cls X) : S106496x1000.Idx → F .f32) := by
  have hl : ∀ k j, d.resultIdx? k idx = some j ↔ (k 0).val = (j 0).val ∧ (X k).toNat = (j 1).val := fun k j => by
    have hk : (k 0).val < 106496 := (k 0).isLt
    have hn : (BitVec.ofNat 32 (k 0).val).toNat = (k 0).val := by rw [BitVec.toNat_ofNat]; omega
    rw [lands d hi hs hv, h0, h1, toInt_small (by rw [hn]; omega), toInt_small (lt_trans (hX k) (by decide)), hn]
    omega
  funext j
  have hj : (j 0).val < 106496 := (j 0).isLt
  have hc : cls X (j 0).val = (X (at' (j 0).val hj)).toNat := dif_pos hj
  unfold res
  split_ifs with h
  · refine scatter_set_hit d _ idx _ j one (fun _ _ => rfl) (at' (j 0).val hj) ((hl _ _).mpr ⟨rfl, ?_⟩)
    rw [h, hc]
  · refine scatter_set_miss d _ idx _ j fun k hk => h ?_
    obtain ⟨e0, e1⟩ := (hl k j).mp hk
    rw [← e1, ← e0, cls_at]

/-- An index that is not negative is left as it is where negative ones would have an extent added. -/
theorem wrapped (hb : S_.BroadcastsInDim S106496 (![] : Fin 0 → Fin S106496.rank)) (x y : IVec S106496 32) (hx : ∀ i, (x i).toNat < 2147483648) :
    select (cmpi .slt x (broadcastInDim S106496 ![] hb (constantI S_ 32 0#32))) y x = x :=
  funext fun i => wrap_of_lt (x i) (y i) (hx i)

/-- The reference's composed term, before its last reshape, is the one-hot rows of its class numbers. -/
theorem reference_rows (d : ScatterDims S106496x1000 S106496x2 S106496) (hi : d.insertedWindowDims = [0, 1]) (hs : d.scatterDimsToOperandDims = [0, 1])
    (hv : d.indexVectorDim = 1) (hz : S_.BroadcastsInDim S106496x1000 (![] : Fin 0 → Fin S106496x1000.rank))
    (hb : S_.BroadcastsInDim S106496 (![] : Fin 0 → Fin S106496.rank)) (hc : S106496.BroadcastsInDim S106496x1 (![0] : Fin 1 → Fin S106496x1.rank))
    (hcat : Shape.Concatenates [S106496x1, S106496x1] S106496x2 1) (x : IVec S106496 32) (hx : ∀ i, (x i).toNat < 1000) :
    Host.scatter d (fun _ b => b) (broadcastInDim S106496x1000 ![] hz (constant (F := F) S_ .f32 0x00000000#32))
      (concatenate S106496x2 1
        [⟨S106496x1, broadcastInDim S106496x1 ![0] hc (select (cmpi .slt (iotaInDim S106496 32 0) (broadcastInDim S106496 ![] hb (constantI S_ 32 0#32)))
            (addi (iotaInDim S106496 32 0) (broadcastInDim S106496 ![] hb (constantI S_ 32 106496#32))) (iotaInDim S106496 32 0))⟩,
          ⟨S106496x1, broadcastInDim S106496x1 ![0] hc (select (cmpi .slt x (broadcastInDim S106496 ![] hb (constantI S_ 32 0#32)))
            (addi x (broadcastInDim S106496 ![] hb (constantI S_ 32 1000#32))) x)⟩] hcat)
      (broadcastInDim S106496 ![] hb (constant (F := F) S_ .f32 0x3F800000#32))
      = res (cls x) := by
  have hiota : ∀ i : S106496.Idx, (iotaInDim S106496 32 0 i).toNat < 2147483648 := fun i => by
    show (BitVec.ofNat 32 (i 0).val).toNat < _
    have : (i 0).val < 106496 := (i 0).isLt
    rw [BitVec.toNat_ofNat]; omega
  rw [wrapped hb _ _ hiota, wrapped hb x _ fun i => lt_trans (hx i) (by decide)]
  have hbc : ∀ (v : IVec S106496 32) (k : S106496.Idx) (p : S106496x1.Idx), (p 0).val = (k 0).val → broadcastInDim S106496x1 ![0] hc v p = v k := by
    intro v k p h
    show v _ = v k
    refine congrArg v (funext fun a => Fin.ext ?_)
    fin_cases a
    exact h
  let col : S106496.Idx → S106496x1.Idx := fun k => fun | ⟨0, _⟩ => k 0 | ⟨1, _⟩ => (0 : Fin 1)
  refine scatter_rows d hi hs hv _ x hx (fun k => ?_) (fun k => ?_)
  · refine (concatenate_pair_apply_left (s₁ := S106496x1) (s₂ := S106496x1) 1 _ _ hcat (word k 0) rfl (col k) fun b => ?_).trans (hbc _ k (col k) rfl)
    match b with
    | ⟨0, _⟩ => rfl
    | ⟨1, _⟩ => rfl
  · refine (concatenate_pair_apply_right (s₁ := S106496x1) (s₂ := S106496x1) 1 _ _ hcat (word k 1) rfl rfl (col k) (fun b hb => ?_) rfl).trans (hbc x k (col k) rfl)
    match b with
    | ⟨0, _⟩ => rfl
    | ⟨1, _⟩ => exact absurd rfl hb

/-- Under the precondition every word of the argument is a class number. -/
theorem lt_of_pre [Cert.Pre_classes.Facts] (A : IVec S4096x26 32) (h : Cert.Pre_classes.fn (F := F) A = fun _ => 1#1) (i : S4096x26.Idx) : (A i).toNat < 1000 := by
  have : Subsingleton Cert.Pre_classes.S_.Idx := ⟨fun _ _ => funext fun a => a.elim0⟩
  have e := Host.reduce_andi_all _ _ _ _ (fun a => a.elim0) (congrFun h fun a => a.elim0) i
  change IntOp.andi (IntOp.cmpi .sge (A i) 0#32) (IntOp.cmpi .slt (A i) 1000#32) = 1#1 at e
  rw [WordCmp.andi_sge_zero_slt_ofNat (k := 1000) (by decide), WordCmp.ofBool_decide_eq_one_iff] at e
  exact e

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Reference
public import proofs.«01_k».proof.Proof.Gen.Reference.Run
public import proofs.«01_k».proof.Proof.Gen.Pre_classes
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.Launch

/-! ## The kernel -/

/-- Under the precondition the idealized kernel runs, leaves its argument as it was and every counter at zero. -/
theorem frame_kernelIdeal : Cert.quiescent_KernelIdeal := fun m ρ hp =>
  (θ_run Cert.KernelIdeal.defs _ _).mono (fun _ h => ⟨fun c => (h.1 c).1, h.2⟩)
    (run_main (F := Ideal) m ρ fun d i => Cert.Value.lt_of_pre (F := Ideal) (arg m d) (hp d) i)

/-- The same of the kernel at bit patterns: the one run, read there. -/
theorem frame_kernel : Cert.quiescent_Kernel := fun m ρ hp =>
  (θ_run Cert.KernelIdeal.defs _ _).mono (fun _ h => ⟨fun c => (h.1 c).1, h.2⟩)
    (run_main (F := Bits) m ρ fun d i => Cert.Value.lt_of_pre (F := Bits) (arg m d) (hp d) i)

/-! ## The reference -/

/-- From any memory the idealized reference runs and leaves its argument as it was; it declares no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- In particular it does so under the precondition. -/
theorem frame_referenceIdeal_pre : Cert.quiescent_ReferenceIdeal_pre_classes := fun m ρ _ =>
  frame_referenceIdeal m ρ trivial

/-- The reference at bit patterns runs too and leaves its argument as it was; it declares no semaphore. -/
theorem frame_reference : Cert.quiescent_Reference := fun m ρ _ =>
  (θ_run Cert.Reference.defs _ _).mono (fun r h => ⟨fun c => (h c).2, sem_eq_zero_of_no_sems (by decide) r.2⟩)
    (Cert.Reference.Value.run (F := Bits) m ρ)

/-! ## The values -/

/-- From one argument the idealized kernel and the idealized reference end with one result, the one-hot rows folded. -/
theorem algebraic : Cert.algebraic_KernelIdeal_ReferenceIdeal := by
  intro m ρ m' ρ' hp hag
  have ok : Ok (F := Ideal) m := fun d i => Cert.Value.lt_of_pre (F := Ideal) (arg m d) (hp d) i
  refine ⟨fun c => out m c, (θ_run Cert.KernelIdeal.defs _ _).mono (fun _ h c => ⟨(h.1 c).2, (h.1 c).1⟩) (run_main (F := Ideal) m ρ ok), ?_⟩
  refine (θ_run Cert.ReferenceIdeal.defs _ _).mono (fun r h c => ⟨(h c).1.trans ?_, (h c).2⟩) (Cert.ReferenceIdeal.Value.run (F := Ideal) m' ρ')
  rw [hag c]
  exact congrArg fold (Cert.Value.reference_rows (F := Ideal) _ rfl rfl rfl _ _ _ _ (nums m c) (flat_lt (ok c)))

/-- The same at bit patterns: kernel and reference end with one result, bit for bit. -/
theorem bitexact : Cert.bitexact_Kernel_Reference := by
  intro m ρ m' ρ' hp hag
  have ok : Ok (F := Bits) m := fun d i => Cert.Value.lt_of_pre (F := Bits) (arg m d) (hp d) i
  refine ⟨fun c => out (F := Bits) m c,
    (θ_run Cert.KernelIdeal.defs _ _).mono (fun _ h c => ⟨(h.1 c).2, (h.1 c).1⟩) (run_main (F := Bits) m ρ ok), ?_⟩
  refine (θ_run Cert.Reference.defs _ _).mono (fun r h c => ⟨(h c).1.trans ?_, (h c).2⟩) (Cert.Reference.Value.run (F := Bits) m' ρ')
  rw [hag c]
  exact congrArg fold (Cert.Value.reference_rows (F := Bits) _ rfl rfl rfl _ _ _ _ (nums (F := Bits) m c) (flat_lt (ok c)))

/-- Everything the certificate claims. -/
theorem claim : Cert.Claim :=
  ⟨Cert.Kernel.Gen.facts, Cert.KernelIdeal.Gen.facts, Cert.ReferenceIdeal.Gen.facts, Cert.Reference.Gen.facts, Cert.Pre_classes.Gen.facts,
    frame_kernel, frame_kernelIdeal, frame_referenceIdeal, frame_referenceIdeal_pre, frame_reference, trivial, algebraic, bitexact⟩

end Cert.Proof

end
